-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_distinct [hPre_scores_distinct : Cert.Pre_scores_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_scores_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_distinct [hPre_scores_distinct : Cert.Pre_scores_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_distinct [hKernelIdeal : Cert.KernelIdeal.Facts] [hPre_scores_distinct : Cert.Pre_scores_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_distinct m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_distinct [hReferenceIdeal : Cert.ReferenceIdeal.Facts] [hPre_scores_distinct : Cert.Pre_scores_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_distinct [hKernelIdeal : Cert.KernelIdeal.Facts] [hReferenceIdeal : Cert.ReferenceIdeal.Facts] [hPre_scores_distinct : Cert.Pre_scores_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_distinct : Cert.Pre_scores_distinct.Facts),
    quiescent_Kernel (hKernel := hKernel)
    ∧ quiescent_KernelIdeal (hKernelIdeal := hKernelIdeal)
    ∧ quiescent_KernelIdeal_pre_scores_distinct (hKernelIdeal := hKernelIdeal) (hPre_scores_distinct := hPre_scores_distinct)
    ∧ quiescent_ReferenceIdeal (hReferenceIdeal := hReferenceIdeal)
    ∧ quiescent_ReferenceIdeal_pre_scores_distinct (hReferenceIdeal := hReferenceIdeal) (hPre_scores_distinct := hPre_scores_distinct)
    ∧ preserves_Kernel_KernelIdeal
    ∧ algebraic_KernelIdeal_ReferenceIdeal_pre_scores_distinct (hKernelIdeal := hKernelIdeal) (hReferenceIdeal := hReferenceIdeal) (hPre_scores_distinct := hPre_scores_distinct)
-- ==== Pre_scores_distinct.lean ====
abbrev S8192x2048 : Shape := ⟨2, ![8192, 2048]⟩
abbrev S64x2048 : Shape := ⟨2, ![64, 2048]⟩
abbrev S64 : Shape := ⟨1, ![64]⟩
abbrev S2048x64 : Shape := ⟨2, ![2048, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64x1 : Shape := ⟨3, ![8192, 64, 1]⟩
abbrev S8192x1x64 : Shape := ⟨3, ![8192, 1, 64]⟩
abbrev S8192x64x64 : Shape := ⟨3, ![8192, 64, 64]⟩
abbrev S64x1 : Shape := ⟨2, ![64, 1]⟩
abbrev S64x64 : Shape := ⟨2, ![64, 64]⟩
abbrev S1x64x64 : Shape := ⟨3, ![1, 64, 64]⟩

class Facts : Prop where
  transposes_S64x2048_S2048x64_1_0 : S64x2048.Transposes [1, 0] S2048x64
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S8192x64_S8192x64x1_0_1 : S8192x64.BroadcastsInDim S8192x64x1 (![0, 1] : Fin 2 → Fin S8192x64x1.rank)
  bcast_S8192x64_S8192x1x64_0_2 : S8192x64.BroadcastsInDim S8192x1x64 (![0, 2] : Fin 2 → Fin S8192x1x64.rank)
  bcast_S8192x64x1_S8192x64x64_0_1_2 : S8192x64x1.BroadcastsInDim S8192x64x64 (![0, 1, 2] : Fin 3 → Fin S8192x64x64.rank)
  bcast_S8192x1x64_S8192x64x64_0_1_2 : S8192x1x64.BroadcastsInDim S8192x64x64 (![0, 1, 2] : Fin 3 → Fin S8192x64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S64x64_S1x64x64_1_2 : S64x64.BroadcastsInDim S1x64x64 (![1, 2] : Fin 2 → Fin S1x64x64.rank)
  bcast_S1x64x64_S8192x64x64_0_1_2 : S1x64x64.BroadcastsInDim S8192x64x64 (![0, 1, 2] : Fin 3 → Fin S8192x64x64.rank)
  dot_S8192x2048_S2048x64_S8192x64_1_0_0_1_n_n_wf : DotDims.WF S8192x2048 S2048x64 S8192x64 [1] [0] [0] [1] [] []

variable [Facts]

def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf
def fn_part1 {F : FTy → Type} [FloatOps F] (main_v16 : IVec S64 32) (main_v19 : FVec F S8192x64x64 .f32) (main_v20 : FVec F S8192x64x64 .f32) : IVec S8192x64x64 1 :=
  let main_v21 : IVec S8192x64x64 1 := cmpf .une main_v19 main_v20
  let main_v22 : IVec S64x1 32 := broadcastInDim S64x1 ![0] bcast_S64_S64x1_0 main_v16
  let main_v23 : IVec S1x64 32 := broadcastInDim S1x64 ![1] bcast_S64_S1x64_1 main_v16
  let main_v24 : IVec S64x64 32 := broadcastInDim S64x64 ![0, 1] bcast_S64x1_S64x64_0_1 main_v22
  let main_v25 : IVec S64x64 32 := broadcastInDim S64x64 ![0, 1] bcast_S1x64_S64x64_0_1 main_v23
  let main_v26 : IVec S64x64 1 := cmpi .eq main_v24 main_v25
  let main_v27 : IVec S1x64x64 1 := broadcastInDim S1x64x64 ![1, 2] bcast_S64x64_S1x64x64_1_2 main_v26
  let main_v28 : IVec S8192x64x64 1 := broadcastInDim S8192x64x64 ![0, 1, 2] bcast_S1x64x64_S8192x64x64_0_1_2 main_v27
  let main_v29 : IVec S8192x64x64 1 := ori main_v21 main_v28
  main_v29

def fn {F : FTy → Type} [FloatOps F] (main_arg0 : FVec F S8192x2048 .f32) (main_arg1 : FVec F S64x2048 .f32) (main_arg2 : FVec F S64 .f32) : IVec S8192x64x64 1 :=
  let main_v0 : FVec F S2048x64 .f32 := (transpose S2048x64 [1, 0] · transposes_S64x2048_S2048x64_1_0) main_arg1
  let main_v1 : FVec F S8192x64 .f32 := (fun l r => Host.dotGeneral dot_S8192x2048_S2048x64_S8192x64_1_0_0_1_n_n none l r) main_arg0 main_v0
  let main_cst : FVec F S_ .f32 := constant S_ .f32 0xFF800000#32
  let main_v2 : FVec F S8192 .f32 := (fun x v => Host.reduce FloatOps.maximumf x v reducesTo_S8192x64_S8192_d1 h_S_) main_v1 main_cst
  let main_cst_0 : FVec F S_ .f32 := constant S_ .f32 0xFF800000#32
  let main_v3 : FVec F S8192 .f32 := broadcastInDim S8192 ![] bcast_S_S8192 main_cst_0
  let main_v4 : FVec F S8192 .f32 := maximumf main_v3 main_v2
  let main_v5 : FVec F S8192x1 .f32 := broadcastInDim S8192x1 ![0] bcast_S8192_S8192x1_0 main_v4
  let main_v6 : FVec F S8192x64 .f32 := broadcastInDim S8192x64 ![0, 1] bcast_S8192x1_S8192x64_0_1 main_v5
  let main_v7 : FVec F S8192x64 .f32 := subf main_v1 main_v6
  let main_v8 : FVec F S8192x64 .f32 := Host.exp main_v7
  let main_cst_1 : FVec F S_ .f32 := constant S_ .f32 0x00000000#32
  let main_v9 : FVec F S8192 .f32 := (fun x v => Host.reduceAdd x v reducesTo_S8192x64_S8192_d1 h_S_) main_v8 main_cst_1
  let main_v10 : FVec F S8192x1 .f32 := broadcastInDim S8192x1 ![0] bcast_S8192_S8192x1_0 main_v9
  let main_v11 : FVec F S8192x64 .f32 := broadcastInDim S8192x64 ![0, 1] bcast_S8192x1_S8192x64_0_1 main_v10
  let main_v12 : FVec F S8192x64 .f32 := Host.divf main_v8 main_v11
  let main_v13 : FVec F S1x64 .f32 := broadcastInDim S1x64 ![1] bcast_S64_S1x64_1 main_arg2
  let main_v14 : FVec F S8192x64 .f32 := broadcastInDim S8192x64 ![0, 1] bcast_S1x64_S8192x64_0_1 main_v13
  let main_v15 : FVec F S8192x64 .f32 := addf main_v12 main_v14
  let main_v16 : IVec S64 32 := iotaInDim S64 32 0
  let main_v17 : FVec F S8192x64x1 .f32 := broadcastInDim S8192x64x1 ![0, 1] bcast_S8192x64_S8192x64x1_0_1 main_v15
  let main_v18 : FVec F S8192x1x64 .f32 := broadcastInDim S8192x1x64 ![0, 2] bcast_S8192x64_S8192x1x64_0_2 main_v15
  let main_v19 : FVec F S8192x64x64 .f32 := broadcastInDim S8192x64x64 ![0, 1, 2] bcast_S8192x64x1_S8192x64x64_0_1_2 main_v17
  let main_v20 : FVec F S8192x64x64 .f32 := broadcastInDim S8192x64x64 ![0, 1, 2] bcast_S8192x1x64_S8192x64x64_0_1_2 main_v18
  fn_part1 (F := F) main_v16 main_v19 main_v20
-- ==== Kernel.lean ====
abbrev S8192x2048 : Shape := ⟨2, ![8192, 2048]⟩
abbrev S64x2048 : Shape := ⟨2, ![64, 2048]⟩
abbrev S64 : Shape := ⟨1, ![64]⟩
abbrev S8192x64 : Shape := ⟨2, ![8192, 64]⟩
abbrev S1024x2048 : Shape := ⟨2, ![1024, 2048]⟩
abbrev S1024x64 : Shape := ⟨2, ![1024, 64]⟩
abbrev S64x1024 : Shape := ⟨2, ![64, 1024]⟩
abbrev S1024 : Shape := ⟨1, ![1024]⟩
abbrev S1x1024 : Shape := ⟨2, ![1, 1024]⟩
abbrev S8192x16 : Shape := ⟨2, ![8192, 16]⟩
abbrev S256x64 : Shape := ⟨2, ![256, 64]⟩
abbrev S256x16 : Shape := ⟨2, ![256, 16]⟩
abbrev S_ : Shape := ⟨0, ![]⟩
abbrev S128x64 : Shape := ⟨2, ![128, 64]⟩
abbrev S16 : Shape := ⟨1, ![16]⟩
abbrev S1x16 : Shape := ⟨2, ![1, 16]⟩
abbrev S1 : Shape := ⟨1, ![1]⟩
abbrev S8192x6 : Shape := ⟨2, ![8192, 6]⟩

abbrev nBuf : Table → Nat
  | .hbm => 8
  | .local .tc .vmem => 5
  | .local .scVector .vmem => 4
  | _ => 0

abbrev bufTy : (tb : Table) → Fin (nBuf tb) → BufTy
  | .hbm, ⟨0, _⟩ => ⟨S8192x2048, .f32⟩
  | .hbm, ⟨1, _⟩ => ⟨S64x2048, .f32⟩
  | .hbm, ⟨2, _⟩ => ⟨S64, .f32⟩
  | .hbm, ⟨3, _⟩ => ⟨S8192x64, .f32⟩
  | .hbm, ⟨4, _⟩ => ⟨S8192x16, .f32⟩
  | .hbm, ⟨5, _⟩ => ⟨S8192x16, .i32⟩
  | .hbm, ⟨6, _⟩ => ⟨S8192x6, .f32⟩
  | .hbm, ⟨7, _⟩ => ⟨S8192x6, .i32⟩
  | .local .tc .vmem, ⟨0, _⟩ => ⟨S1024x2048, .f32⟩
  | .local .tc .vmem, ⟨1, _⟩ => ⟨S1024x2048, .f32⟩
  | .local .tc .vmem, ⟨2, _⟩ => ⟨S64x2048, .f32⟩
  | .local .tc .vmem, ⟨3, _⟩ => ⟨S1024x64, .f32⟩
  | .local .tc .vmem, ⟨4, _⟩ => ⟨S1024x64, .f32⟩
  | .local .scVector .vmem, ⟨0, _⟩ => ⟨S256x64, .f32⟩
  | .local .scVector .vmem, ⟨1, _⟩ => ⟨S64, .f32⟩
  | .local .scVector .vmem, ⟨2, _⟩ => ⟨S256x16, .f32⟩
  | .local .scVector .vmem, ⟨3, _⟩ => ⟨S256x16, .i32⟩
  | _, _ => ⟨S8192x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 3, rfl⟩
abbrev main_arg2_scv : Ref sig .scVector := ⟨.hbm, 2, rfl⟩
abbrev main_v1_0_scv : Ref sig .scVector := ⟨.hbm, 4, rfl⟩
abbrev main_v1_1_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_1 : BitVec 32 := 0#32
  ![v2.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v7 : BitVec 32 := Scalar.addi v2 c128_i32
  let c0_i32_7 : BitVec 32 := 0#32
  ![v7.toNat, 0]
@[reducible] def k1_t1_loop : Scf.Loop 32 :=
  let c0_i32_21 : BitVec 32 := 0#32
  let c128_i32_22 : BitVec 32 := 128#32
  let v45 : BitVec 32 := Scalar.addi c0_i32_21 c128_i32_22
  let c1_i32 : BitVec 32 := 1#32
  ⟨c0_i32_21, v45, c1_i32⟩
def k1_off3 (k1_t1 : Fin k1_t1_loop.trips) : Fin 2 → Nat :=
  let c0_i32_35 : BitVec 32 := 0#32
  let c0_i32_21 : BitVec 32 := 0#32
  let c1_i32 : BitVec 32 := 1#32
  let arg12 : BitVec 32 := Scf.iv c0_i32_21 c1_i32 k1_t1
  let c1_i32_34 : BitVec 32 := 1#32
  let v51 : BitVec 32 := Scalar.muli arg12 c1_i32_34
  let v52 : BitVec 32 := Scalar.addi c0_i32_35 v51
  let v85 : Index := Scalar.indexCast v52
  let c0_42 : Index := 0#32
  ![v85.toNat, 0]
def k1_off4 (k1_t1 : Fin k1_t1_loop.trips) : Fin 2 → Nat :=
  let c0_i32_35 : BitVec 32 := 0#32
  let c0_i32_21 : BitVec 32 := 0#32
  let c1_i32 : BitVec 32 := 1#32
  let arg12 : BitVec 32 := Scf.iv c0_i32_21 c1_i32 k1_t1
  let c1_i32_34 : BitVec 32 := 1#32
  let v51 : BitVec 32 := Scalar.muli arg12 c1_i32_34
  let v52 : BitVec 32 := Scalar.addi c0_i32_35 v51
  let v87 : Index := Scalar.indexCast v52
  let c16_43 : Index := 16#32
  ![v87.toNat, 16]
def k1_off5 (k1_t1 : Fin k1_t1_loop.trips) : Fin 2 → Nat :=
  let c0_i32_35 : BitVec 32 := 0#32
  let c0_i32_21 : BitVec 32 := 0#32
  let c1_i32 : BitVec 32 := 1#32
  let arg12 : BitVec 32 := Scf.iv c0_i32_21 c1_i32 k1_t1
  let c1_i32_34 : BitVec 32 := 1#32
  let v51 : BitVec 32 := Scalar.muli arg12 c1_i32_34
  let v52 : BitVec 32 := Scalar.addi c0_i32_35 v51
  let v89 : Index := Scalar.indexCast v52
  let c32_44 : Index := 32#32
  ![v89.toNat, 32]
def k1_off6 (k1_t1 : Fin k1_t1_loop.trips) : Fin 2 → Nat :=
  let c0_i32_35 : BitVec 32 := 0#32
  let c0_i32_21 : BitVec 32 := 0#32
  let c1_i32 : BitVec 32 := 1#32
  let arg12 : BitVec 32 := Scf.iv c0_i32_21 c1_i32 k1_t1
  let c1_i32_34 : BitVec 32 := 1#32
  let v51 : BitVec 32 := Scalar.muli arg12 c1_i32_34
  let v52 : BitVec 32 := Scalar.addi c0_i32_35 v51
  let v91 : Index := Scalar.indexCast v52
  let c48_45 : Index := 48#32
  ![v91.toNat, 48]

def k1_chk1 (v2080 : IVec S16 32) (v2081 : IVec S16 32) : Prop :=
  (∀ a x, ((![v2081, v2080] : Fin 2 → IVec S16 32) a x).toNat < S256x64.size a)
theorem k1_idx1_inb : ∀ (v2080 : IVec S16 32) (v2081 : IVec S16 32) (k1_hw1 : k1_chk1 v2080 v2081), ∀ a x, ((![v2081, v2080] : Fin 2 → IVec S16 32) a x).toNat < S256x64.size a := fun v2080 v2081 k1_hw1 => k1_hw1
def k1_off7 (k1_t1 : Fin k1_t1_loop.trips) : Fin 2 → Nat :=
  let c0_i32_35 : BitVec 32 := 0#32
  let c0_i32_21 : BitVec 32 := 0#32
  let c1_i32 : BitVec 32 := 1#32
  let arg12 : BitVec 32 := Scf.iv c0_i32_21 c1_i32 k1_t1
  let c1_i32_34 : BitVec 32 := 1#32
  let v51 : BitVec 32 := Scalar.muli arg12 c1_i32_34
  let v52 : BitVec 32 := Scalar.addi c0_i32_35 v51
  let v2083 : Index := Scalar.indexCast v52
  let c0_109 : Index := 0#32
  ![v2083.toNat, 0]
@[reducible] def k1_t2_loop : Scf.Loop 32 :=
  let c0_i32_30 : BitVec 32 := 0#32
  let c128_i32_31 : BitVec 32 := 128#32
  let v50 : BitVec 32 := Scalar.addi c0_i32_30 c128_i32_31
  let c1_i32_32 : BitVec 32 := 1#32
  ⟨c0_i32_30, v50, c1_i32_32⟩
def k1_off8 (k1_t2 : Fin k1_t2_loop.trips) : Fin 2 → Nat :=
  let c128_i32_35 : BitVec 32 := 128#32
  let c0_i32_30 : BitVec 32 := 0#32
  let c1_i32_32 : BitVec 32 := 1#32
  let arg12 : BitVec 32 := Scf.iv c0_i32_30 c1_i32_32 k1_t2
  let c1_i32_34 : BitVec 32 := 1#32
  let v51 : BitVec 32 := Scalar.muli arg12 c1_i32_34
  let v52 : BitVec 32 := Scalar.addi c128_i32_35 v51
  let v85 : Index := Scalar.indexCast v52
  let c0_42 : Index := 0#32
  ![v85.toNat, 0]
def k1_off9 (k1_t2 : Fin k1_t2_loop.trips) : Fin 2 → Nat :=
  let c128_i32_35 : BitVec 32 := 128#32
  let c0_i32_30 : BitVec 32 := 0#32
  let c1_i32_32 : BitVec 32 := 1#32
  let arg12 : BitVec 32 := Scf.iv c0_i32_30 c1_i32_32 k1_t2
  let c1_i32_34 : BitVec 32 := 1#32
  let v51 : BitVec 32 := Scalar.muli arg12 c1_i32_34
  let v52 : BitVec 32 := Scalar.addi c128_i32_35 v51
  let v87 : Index := Scalar.indexCast v52
  let c16_43 : Index := 16#32
  ![v87.toNat, 16]
def k1_off10 (k1_t2 : Fin k1_t2_loop.trips) : Fin 2 → Nat :=
  let c128_i32_35 : BitVec 32 := 128#32
  let c0_i32_30 : BitVec 32 := 0#32
  let c1_i32_32 : BitVec 32 := 1#32
  let arg12 : BitVec 32 := Scf.iv c0_i32_30 c1_i32_32 k1_t2
  let c1_i32_34 : BitVec 32 := 1#32
  let v51 : BitVec 32 := Scalar.muli arg12 c1_i32_34
  let v52 : BitVec 32 := Scalar.addi c128_i32_35 v51
  let v89 : Index := Scalar.indexCast v52
  let c32_44 : Index := 32#32
  ![v89.toNat, 32]
def k1_off11 (k1_t2 : Fin k1_t2_loop.trips) : Fin 2 → Nat :=
  let c128_i32_35 : BitVec 32 := 128#32
  let c0_i32_30 : BitVec 32 := 0#32
  let c1_i32_32 : BitVec 32 := 1#32
  let arg12 : BitVec 32 := Scf.iv c0_i32_30 c1_i32_32 k1_t2
  let c1_i32_34 : BitVec 32 := 1#32
  let v51 : BitVec 32 := Scalar.muli arg12 c1_i32_34
  let v52 : BitVec 32 := Scalar.addi c128_i32_35 v51
  let v91 : Index := Scalar.indexCast v52
  let c48_45 : Index := 48#32
  ![v91.toNat, 48]

def k1_chk2 (v2080 : IVec S16 32) (v2081 : IVec S16 32) : Prop :=
  (∀ a x, ((![v2081, v2080] : Fin 2 → IVec S16 32) a x).toNat < S256x64.size a)
theorem k1_idx2_inb : ∀ (v2080 : IVec S16 32) (v2081 : IVec S16 32) (k1_hw2 : k1_chk2 v2080 v2081), ∀ a x, ((![v2081, v2080] : Fin 2 → IVec S16 32) a x).toNat < S256x64.size a := fun v2080 v2081 k1_hw2 => k1_hw2
def k1_off12 (k1_t2 : Fin k1_t2_loop.trips) : Fin 2 → Nat :=
  let c128_i32_35 : BitVec 32 := 128#32
  let c0_i32_30 : BitVec 32 := 0#32
  let c1_i32_32 : BitVec 32 := 1#32
  let arg12 : BitVec 32 := Scf.iv c0_i32_30 c1_i32_32 k1_t2
  let c1_i32_34 : BitVec 32 := 1#32
  let v51 : BitVec 32 := Scalar.muli arg12 c1_i32_34
  let v52 : BitVec 32 := Scalar.addi c128_i32_35 v51
  let v2083 : Index := Scalar.indexCast v52
  let c0_109 : Index := 0#32
  ![v2083.toNat, 0]
def k1_off13 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_34_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x2048 : Shape := ⟨2, ![8192, 2048]⟩
abbrev S64x2048 : Shape := ⟨2, ![64, 2048]⟩
abbrev S64 : Shape := ⟨1, ![64]⟩
abbrev S2048x64 : Shape := ⟨2, ![2048, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x6 : Shape := ⟨2, ![8192, 6]⟩
abbrev S8192x6x1 : Shape := ⟨3, ![8192, 6, 1]⟩
abbrev S1 : Shape := ⟨1, ![1]⟩
abbrev S1x1x1 : Shape := ⟨3, ![1, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x6, .f32⟩
  | .hbm, ⟨23, _⟩ => ⟨S8192x6, .i32⟩
  | .hbm, ⟨24, _⟩ => ⟨S_, .i32⟩
  | .hbm, ⟨25, _⟩ => ⟨S8192x6, .i32⟩
  | .hbm, ⟨26, _⟩ => ⟨S8192x6, .i1⟩
  | .hbm, ⟨27, _⟩ => ⟨S_, .i32⟩
  | .hbm, ⟨28, _⟩ => ⟨S8192x6, .i32⟩
  | .hbm, ⟨29, _⟩ => ⟨S8192x6, .i32⟩
  | .hbm, ⟨30, _⟩ => ⟨S8192x6, .i32⟩
  | .hbm, ⟨31, _⟩ => ⟨S8192x6x1, .i32⟩
  | .hbm, ⟨32, _⟩ => ⟨S1, .i32⟩
  | .hbm, ⟨33, _⟩ => ⟨S_, .i32⟩
  | .hbm, ⟨34, _⟩ => ⟨S8192x6x1, .i32⟩
  | .hbm, ⟨35, _⟩ => ⟨S8192x6x1, .i1⟩
  | .hbm, ⟨36, _⟩ => ⟨S1x1x1, .i32⟩
  | .hbm, ⟨37, _⟩ => ⟨S8192x6x1, .i32⟩
  | .hbm, ⟨38, _⟩ => ⟨S8192x6x1, .i1⟩
  | .hbm, ⟨39, _⟩ => ⟨S8192x6x1, .i1⟩
  | .hbm, ⟨40, _⟩ => ⟨S_, .i1⟩
  | .hbm, ⟨41, _⟩ => ⟨S8192x6, .i1⟩
  | .hbm, ⟨42, _⟩ => ⟨S8192x6, .f32⟩
  | .hbm, ⟨43, _⟩ => ⟨S_, .f32⟩
  | .hbm, ⟨44, _⟩ => ⟨S8192x6, .f32⟩
  | .hbm, ⟨45, _⟩ => ⟨S8192x6, .f32⟩
  | .hbm, ⟨46, _⟩ => ⟨S_, .f32⟩
  | .hbm, ⟨47, _⟩ => ⟨S8192x6, .f32⟩
  | .hbm, ⟨48, _⟩ => ⟨S8192x6, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩

abbrev nD : Nat := 1
abbrev τ : Topo := Topo.v7x

variable {F : FTy → Type} [FloatOps F]
-- ==== Proof.Spec.lean ====
/- What one row of the SparseCore kernel computes from its four loaded segments: the four sorts, the merges and the
   last sort, as functions of vectors, and the theorem that the printed row region is the loads, this function and the
   gather. -/
module

public import proofs.«01_k».proof.Proof.Gen.KernelIdeal.Skeleton
public import Idealize.ShloMosaic.Lib.Exec
public import Idealize.ShloMosaic.Lib.Tactic

@[expose] public section

noncomputable section

namespace Cert.KernelIdeal.Row

open Idealize.ShloMosaic Idealize.SL.Sem
open Cert.KernelIdeal Cert.KernelIdeal.Gen

variable {F : FTy → Type} [FloatOps F] {α : Type}

/-- A one-lane slice at a lane of a sixteen-lane vector lies within it. -/
theorem lane_slices {j : Nat} (h : j < 16) : S16.Slices ![j] S1 :=
  ⟨rfl, fun a => by fin_cases a; exact h⟩

/-- Lane `j` of `x` in every lane. -/
def lane (x : S16.Idx → α) (j : Nat) (h : j < 16) : S16.Idx → α :=
  broadcastTo S16 (shapeCast S1 (extractStridedSlice S1 ![j] x (lane_slices h)) shapeCasts_S1_S1) broadcasts_S1_S16

/-- The lane numbers. -/
def lanes : IVec S16 32 := iota .scVector S16 32 [0] iota_S16_d0_w32_scVector

/-- How many of the first `n` lanes of `k` come before each lane in the stable descending order. -/
def rankTo (k : FVec F S16 .f32) : (n : Nat) → n ≤ 16 → IVec S16 32
  | 0, _ => broadcast S16 0#32
  | n + 1, h => addi (rankTo k n (Nat.le_of_succ_le h))
      (extui 32 (select (cmpi .sgt lanes (broadcast S16 (BitVec.ofNat 32 n))) (cmpf .oge (lane k n h) k) (cmpf .ogt (lane k n h) k)) natLt_1_32)

/-- Each lane's place in the stable descending order of `k`. -/
def rank (k : FVec F S16 .f32) : IVec S16 32 := rankTo k 16 (Nat.le_refl 16)

/-- The first `n` lanes of `x` moved to the places `r` gives them. -/
def placeTo (r : IVec S16 32) (x : S16.Idx → α) : (n : Nat) → n ≤ 16 → S16.Idx → α
  | 0, _ => x
  | n + 1, h => select (cmpi .eq lanes (lane r n h)) (lane x n h) (placeTo r x n (Nat.le_of_succ_le h))

/-- The lanes of `x` moved to the places `r` gives them. -/
def place (r : IVec S16 32) (x : S16.Idx → α) : S16.Idx → α := placeTo r x 16 (Nat.le_refl 16)

/-- `x` at the lanes `idx` names, for names up to `n`. -/
def takeTo (x : S16.Idx → α) (idx : IVec S16 32) : (n : Nat) → n < 16 → S16.Idx → α
  | 0, h => lane x 0 h
  | n + 1, h => select (cmpi .eq idx (broadcast S16 (BitVec.ofNat 32 (n + 1)))) (lane x (n + 1) h) (takeTo x idx n (Nat.lt_of_succ_lt h))

/-- The lanes below eight. -/
def lo8 : IVec S16 1 := cmpi .slt lanes (broadcast S16 8#32)
/-- Seven minus the lane below eight, zero from eight. -/
def shf1 : IVec S16 32 := select lo8 (subi (broadcast S16 7#32) lanes) (broadcast S16 0#32)
/-- Zero below eight, the lane minus eight from eight. -/
def shf2 : IVec S16 32 := select lo8 (broadcast S16 0#32) (subi lanes (broadcast S16 8#32))
/-- Fifteen minus the lane. -/
def shf3 : IVec S16 32 := subi (broadcast S16 15#32) lanes

/-- The expert numbers of segment `o / 16`. -/
def experts (o : BitVec 32) : IVec S16 32 := addi lanes (broadcast S16 o)

/-- The scores of a segment: the loaded probabilities plus the loaded bias. -/
def score (p : Vec F S1x16 .f32) (b : Vec F S16 .f32) : FVec F S16 .f32 := addf (shapeCast S16 p shapeCasts_S1x16_S16) b

/-- From four segments' scores, one segment holding the greatest sixteen candidates: values of `x` chosen by the scores. -/
def mergeBy (k0 k1 k2 k3 : FVec F S16 .f32) (x0 x1 x2 x3 : S16.Idx → α) : S16.Idx → α :=
  select lo8
    (select (cmpf .oge (place (rank k0) k0) (takeTo (place (rank k1) k1) shf1 7 (by decide)))
      (place (rank k0) x0) (takeTo (place (rank k1) x1) shf1 7 (by decide)))
    (select (cmpf .oge (takeTo (place (rank k2) k2) shf2 7 (by decide)) (takeTo (place (rank k3) k3) shf3 15 (by decide)))
      (takeTo (place (rank k2) x2) shf2 7 (by decide)) (takeTo (place (rank k3) x3) shf3 15 (by decide)))

/-- The row's expert numbers, greatest score first, from the four segments' scores. -/
def best (k0 k1 k2 k3 : FVec F S16 .f32) : IVec S16 32 :=
  place (rank (mergeBy k0 k1 k2 k3 k0 k1 k2 k3)) (mergeBy k0 k1 k2 k3 (experts 0#32) (experts 16#32) (experts 32#32) (experts 48#32))

section Bridge

variable (i : grid1.Coords) (arg2 : Memref sig .scVector .hbm S8192x64 .f32) (harg2 : arg2.IsWhole) (arg3 : Memref sig .scVector .hbm S64 .f32) (harg3 : arg3.IsWhole) (arg4 : Memref sig .scVector .hbm S8192x16 .f32) (harg4 : arg4.IsWhole) (arg5 : Memref sig .scVector .hbm S8192x16 .i32) (harg5 : arg5.IsWhole) (arg6 : Memref sig .scVector .vmem S256x64 .f32) (harg6 : arg6.IsWhole) (arg7 : Memref sig .scVector .vmem S64 .f32) (harg7 : arg7.IsWhole) (arg8 : Memref sig .scVector .vmem S256x16 .f32) (harg8 : arg8.IsWhole) (arg9 : Memref sig .scVector .vmem S256x16 .i32) (harg9 : arg9.IsWhole) (arg10 : DmaSems sig S_) (arg11 : DmaSems sig S_) (v51_r0 : DmaSems sig S_) (v51_r1 : DmaSems sig S_) (v51_r2 : DmaSems sig S_)

/-- A row's number in the first loop. -/
def row1 (t : Fin k1_t1_loop.trips) : BitVec 32 := Scalar.addi 0#32 (Scalar.muli (Scf.iv 0#32 1#32 t) 1#32)

/-- The first loop's row region up to its gather. -/
def head1 (b0 b1 b2 b3 : Vec F S16 .f32) (t : Fin k1_t1_loop.trips) :
    Prog (TpuEff nD τ sig (Elt F) Λ₀ (.scVector ((i 0).castLE hcore1) ((i 1).castLE hsub1))) (Σ' (v52 : BitVec 32) (v2080 : IVec S16 32), Vec F S16 .f32) := do
  let x0 : Vec F S1x16 .f32 ← Prog.lift (.load arg6 (Rect.unit (s := S256x64) (k1_off3 t) S1x16.size (k1_off3_inb t)).toLoadRect (View.loadsAt_vmem h_S1x16))
  let x1 : Vec F S1x16 .f32 ← Prog.lift (.load arg6 (Rect.unit (s := S256x64) (k1_off4 t) S1x16.size (k1_off4_inb t)).toLoadRect (View.loadsAt_vmem h_S1x16))
  let x2 : Vec F S1x16 .f32 ← Prog.lift (.load arg6 (Rect.unit (s := S256x64) (k1_off5 t) S1x16.size (k1_off5_inb t)).toLoadRect (View.loadsAt_vmem h_S1x16))
  let x3 : Vec F S1x16 .f32 ← Prog.lift (.load arg6 (Rect.unit (s := S256x64) (k1_off6 t) S1x16.size (k1_off6_inb t)).toLoadRect (View.loadsAt_vmem h_S1x16))
  have e : IVec S16 32 := best (score x0 b0) (score x1 b1) (score x2 b2) (score x3 b3)
  have r : IVec S16 32 := broadcast S16 (row1 t)
  have hw : k1_chk1 e r := (← Prog.lift (TpuEff.assume (k1_chk1 e r) (k1_chk1.dec e r))).down
  let w : Vec F S16 .f32 ← SparseCore.vectorLoadIdx arg6 ![r, e] (k1_idx1_inb e r hw) (View.loads_vmem h_S256x64)
  pure ⟨row1 t, e, w⟩

set_option maxRecDepth 65536 in
set_option maxHeartbeats 4000000 in
/-- The first loop's printed row region is its four loads, the row's function and the gather. -/
theorem part36_eq (b0 b1 b2 b3 : Vec F S16 .f32) (t : Fin k1_t1_loop.trips) :
    k1_part36 i arg2 harg2 arg3 harg3 arg4 harg4 arg5 harg5 arg6 harg6 arg7 harg7 arg8 harg8 arg9 harg9 arg10 arg11 v51_r0 v51_r1 v51_r2 b0 b1 b2 b3
        (experts 0#32) (experts 16#32) (experts 32#32) (experts 48#32) lanes (k1_pay412 lanes (broadcast S16 8#32)) (k1_pay413 lanes (broadcast S16 8#32))
        (k1_pay414 lanes (broadcast S16 8#32)) (k1_pay415 lanes) 0#32 1#32 t
      = head1 i arg6 b0 b1 b2 b3 t := by
  sl_kernel_rfl

/-- A row's number in the second loop. -/
def row2 (t : Fin k1_t2_loop.trips) : BitVec 32 := Scalar.addi 128#32 (Scalar.muli (Scf.iv 0#32 1#32 t) 1#32)

/-- The second loop's row region up to its gather. -/
def head2 (b0 b1 b2 b3 : Vec F S16 .f32) (t : Fin k1_t2_loop.trips) :
    Prog (TpuEff nD τ sig (Elt F) Λ₀ (.scVector ((i 0).castLE hcore1) ((i 1).castLE hsub1))) (Σ' (v52 : BitVec 32) (v2080 : IVec S16 32), Vec F S16 .f32) := do
  let x0 : Vec F S1x16 .f32 ← Prog.lift (.load arg6 (Rect.unit (s := S256x64) (k1_off8 t) S1x16.size (k1_off8_inb t)).toLoadRect (View.loadsAt_vmem h_S1x16))
  let x1 : Vec F S1x16 .f32 ← Prog.lift (.load arg6 (Rect.unit (s := S256x64) (k1_off9 t) S1x16.size (k1_off9_inb t)).toLoadRect (View.loadsAt_vmem h_S1x16))
  let x2 : Vec F S1x16 .f32 ← Prog.lift (.load arg6 (Rect.unit (s := S256x64) (k1_off10 t) S1x16.size (k1_off10_inb t)).toLoadRect (View.loadsAt_vmem h_S1x16))
  let x3 : Vec F S1x16 .f32 ← Prog.lift (.load arg6 (Rect.unit (s := S256x64) (k1_off11 t) S1x16.size (k1_off11_inb t)).toLoadRect (View.loadsAt_vmem h_S1x16))
  have e : IVec S16 32 := best (score x0 b0) (score x1 b1) (score x2 b2) (score x3 b3)
  have r : IVec S16 32 := broadcast S16 (row2 t)
  have hw : k1_chk2 e r := (← Prog.lift (TpuEff.assume (k1_chk2 e r) (k1_chk2.dec e r))).down
  let w : Vec F S16 .f32 ← SparseCore.vectorLoadIdx arg6 ![r, e] (k1_idx2_inb e r hw) (View.loads_vmem h_S256x64)
  pure ⟨row2 t, e, w⟩

set_option maxRecDepth 65536 in
set_option maxHeartbeats 4000000 in
/-- The second loop's printed row region is its four loads, the row's function and the gather. -/
theorem part72_eq (b0 b1 b2 b3 : Vec F S16 .f32) (t : Fin k1_t2_loop.trips) :
    k1_part72 i arg2 harg2 arg3 harg3 arg4 harg4 arg5 harg5 arg6 harg6 arg7 harg7 arg8 harg8 arg9 harg9 arg10 arg11 v51_r0 v51_r1 v51_r2 b0 b1 b2 b3
        (experts 0#32) (experts 16#32) (experts 32#32) (experts 48#32) lanes (k1_pay412 lanes (broadcast S16 8#32)) (k1_pay413 lanes (broadcast S16 8#32))
        (k1_pay414 lanes (broadcast S16 8#32)) (k1_pay415 lanes) 0#32 1#32 t
      = head2 i arg6 b0 b1 b2 b3 t := by
  sl_kernel_rfl

end Bridge

end Cert.KernelIdeal.Row

end
-- ==== Proof.InFlight.lean ====
/- A copy still in flight whose destination its issuer can look at.  The kernel's first loop gathers from the whole
   scratch array while the copy into its second half is not yet waited for: the second half is kept in an invariant that
   the copy's writes open one by one, and that a load may open too, learning nothing of what is being written. -/
module

public import Idealize.ShloMosaic.Lib.Transfers
public import Idealize.ShloMosaic.Lib.Exec
public import Idealize.ShloMosaic.Lib.Tactic

@[expose] public section

noncomputable section

namespace Cert.InFlight

open Idealize.ShloMosaic Idealize.ShloMosaic.Transfers
open Idealize.SL
open Idealize.SL.BI (sProp Storable)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable (EC : UEmb Counters (MT nD τ sig Ix Val Name U Lvl))
variable (c : Thread nD τ) {sp sp' : Space} {s : Shape} {e : EltTy}

/-- The number of a set of indices: distinct sets have distinct numbers. -/
def num (M : Finset s.Idx) : ℕ := (Fintype.equivFin (Finset s.Idx) M).val

theorem num_inj {M M' : Finset s.Idx} (h : num M = num M') : M = M' :=
  (Fintype.equivFin (Finset s.Idx)).injective (Fin.ext h)

/-- What the invariant keeps: the destination's elements `B`, `w` written at the indices the counter `γ` names — or,
    once they have been taken out, the token `δ` and the counter's fragment. -/
def streamBody (v : View sig c.2.kind sp s e) (B : Finset (Idx (v.loc c))) (f₀ : Buf Val (v.loc c)) (w : s.Idx → Val e)
    (γ δ : ℕ) : sProp 𝕄 :=
  iprop((∃ M : Finset s.Idx, (v.loc c ↦[B]{fullShare} (v.write Val f₀ w M)) ∗ countAuth EC γ (num M))
    ∨ (tok EC δ ∗ ∃ n : ℕ, count EC γ n))

instance streamBody_storable [EC.LandsIn (upEmb : UEmb _ 𝕄)] (v : View sig c.2.kind sp s e) (B : Finset (Idx (v.loc c)))
    (f₀ : Buf Val (v.loc c)) (w : s.Idx → Val e) (γ δ : ℕ) : Storable (upEmb : UEmb _ 𝕄) (streamBody EC c v B f₀ w γ δ) := by
  unfold streamBody tok countAuth count; infer_instance

variable [Preorder Lvl]

/-- The destination's elements go into the invariant, nothing written yet. -/
theorem stream_alloc [Infinite Name] [EC.LandsIn (upEmb : UEmb _ 𝕄)] (v : View sig c.2.kind sp s e) (B : Finset (Idx (v.loc c)))
    (f₀ : Buf Val (v.loc c)) (w : s.Idx → Val e) {E : Set Name} :
    (v.loc c ↦[B]{fullShare} f₀ : sProp 𝕄)
      ⊢ |={E}=> iprop(∃ γ δ ι, inv ι (streamBody EC c v B f₀ w γ δ) ∗ count EC γ (num (∅ : Finset s.Idx)) ∗ tok EC δ) := by
  iintro Hv
  imod (count_alloc EC ∅) $$ [] with ⟨%γ, -, Hγa, Hγ⟩; · iempintro
  imod (count_alloc EC ∅) $$ [] with ⟨%δ, -, -, Hδ⟩; · iempintro
  imod (countAuth_count_update EC (num (∅ : Finset s.Idx))) $$ [Hγa Hγ] with ⟨Hγa, Hγ⟩; · isplitl [Hγa] <;> iassumption
  imod (inv_alloc (P := streamBody EC c v B f₀ w γ δ) (E := E)) $$ [Hv Hγa] with ⟨%ι, Hinv⟩
  · unfold streamBody
    ileft; iexists (∅ : Finset s.Idx)
    rw [View.write_empty]
    isplitl [Hv] <;> iassumption
  imodintro
  iexists γ, δ, ι
  isplitl [Hinv]; · iexact Hinv
  isplitl [Hγ] <;> iassumption

/-- The copy's writes: each opens the invariant, writes, and moves the counter to the indices written so far. -/
theorem stream_writeUpdate [EC.LandsIn (upEmb : UEmb _ 𝕄)] {v : View sig c.2.kind sp s e} {B : Finset (Idx (v.loc c))}
    {f₀ : Buf Val (v.loc c)} {w : s.Idx → Val e} {γ δ : ℕ} {ι : Name} (hB : v.set ⊆ B) :
    (iprop(inv ι (streamBody EC c v B f₀ w γ δ) ∗ count EC γ (num (∅ : Finset s.Idx))) : sProp 𝕄)
      ⊢ writeUpdate c v w (count EC γ (num (Finset.univ : Finset s.Idx))) := by
  rw [writeUpdate, writeUpdateFrom_def]
  iintro ⟨#Hinv, Hγ⟩
  iexists (fun M => count EC γ (num M))
  isplitl [Hγ]; · iexact Hγ
  isplitr
  · rw [writeSteps_def]
    imodintro
    iintro %M %M' Hγ
    imod (inv_acc (Set.mem_univ ι)) $$ Hinv with ⟨Hb, Hclose⟩
    unfold streamBody
    icases Hb with (⟨%M₁, Hv, Hγa⟩ | ⟨-, %n, Hγ'⟩)
    · icombine Hγa Hγ gives %hM
      obtain rfl := num_inj hM
      imodintro
      rw [storeSpec_apply]
      iexists B, (v.write Val f₀ w M)
      isplitl [Hv]; · iexact Hv
      isplitr; · ipureintro; exact fun i hi => hB (v.setOn_subset_set _ hi)
      iintro Hv
      rw [View.write_write_union]
      imod (countAuth_count_update EC (num (M ∪ M'))) $$ [Hγa Hγ] with ⟨Hγa, Hγ⟩; · isplitl [Hγa] <;> iassumption
      ihave Hc := Hclose $$ [Hv Hγa]
      · ileft; iexists (M ∪ M')
        isplitl [Hv] <;> iassumption
      imod Hc
      imodintro
      iexact Hγ
    · iexfalso; iapply (count_count_false EC); isplitl [Hγ'] <;> iassumption
  · iintro H; iexact H

/-- Once all is written the elements come out, for the token and the counter's fragment. -/
theorem stream_take [EC.LandsIn (upEmb : UEmb _ 𝕄)] {v : View sig c.2.kind sp s e} {B : Finset (Idx (v.loc c))}
    {f₀ : Buf Val (v.loc c)} {w : s.Idx → Val e} {γ δ : ℕ} {ι : Name} {E : Set Name} (hE : ι ∈ E) :
    (iprop(inv ι (streamBody EC c v B f₀ w γ δ) ∗ count EC γ (num (Finset.univ : Finset s.Idx)) ∗ tok EC δ) : sProp 𝕄)
      ⊢ |={E}=> (v.loc c ↦[B]{fullShare} (v.write Val f₀ w Finset.univ)) := by
  iintro ⟨Hinv, Hγ, Hδ⟩
  imod (inv_acc hE) $$ Hinv with ⟨Hb, Hclose⟩
  unfold streamBody
  icases Hb with (⟨%M₁, Hv, Hγa⟩ | ⟨Hδ', -⟩)
  · icombine Hγa Hγ gives %hM
    obtain rfl := num_inj hM
    ihave Hc := Hclose $$ [Hδ Hγ]
    · iright
      isplitl [Hδ]; · iexact Hδ
      iexists _; iexact Hγ
    imod Hc
    imodintro
    iexact Hv
  · iexfalso; iapply (count_count_false EC); isplitl [Hδ'] <;> iassumption

variable {Λ : Labels} {defs : Defs nD τ sig Val Λ} (𝒱 : Variants)

/-- Issuing a copy into elements that stay in sight: the issuer keeps the invariant and its token beside the flight, whose
    delivery is the counter's fragment, everything written, and the source. -/
theorem wp_dmaStream [Infinite Name] [EC.LandsIn (upEmb : UEmb _ 𝕄)] (bd : Option 𝒱.V) {α : Type} {Q : α → sProp 𝕄} {s₀ : Shape} {e₀ : EltTy}
    {src : Memref sig c.2.kind sp s₀ e₀} {via : ReadAs Val s₀ e₀ s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {B : Finset (Idx (dst.view.loc c))} {fd : Buf Val (dst.view.loc c)}
    (ix : Ix) (N : ℕ) (hN : dst.view.amount sm = N) (hN0 : 0 < N) (hB : dst.view.set ⊆ B) :
    iprop((src.view.loc c ↦[src.view.set]{q} fs) ∗ (dst.view.loc c ↦[B]{fullShare} fd) ∗ semVal (c, sm) 0)
      ⊢ iprop((∀ γ δ ι, inv ι (streamBody EC c dst.view B fd (via.apply (src.view.read Val fs)) γ δ) -∗ tok EC δ
              -∗ Flight EC c sm ix N iprop(count EC γ (num (Finset.univ : Finset s.Idx)) ∗ (src.view.loc c ↦[src.view.set]{q} fs))
              -∗ wp frame (wpE defs 𝒱 c bd) Set.univ (k ⟨⟩) Q)
          -∗ wp frame (wpE defs 𝒱 c bd) Set.univ (.op (.enqueueDmaAs src (.here dst) via sm hsrc hdst hsem) k) Q) := by
  iintro ⟨Hs, Hd, Hv⟩ Hk
  imod (stream_alloc EC c dst.view B fd (via.apply (src.view.read Val fs)) (E := Set.univ)) $$ Hd with ⟨%γ, %δ, %ι, #Hi, Hγ, Hδ⟩
  imod (flight_alloc EC hN0 iprop(count EC γ (num (Finset.univ : Finset s.Idx))
      ∗ (src.view.loc c ↦[src.view.set]{q} fs)) (g := (c, sm))) $$ Hv with ⟨%γ', %δ', %κ, #Hinv, Hγ', Hδ'⟩
  iapply (wp_enqueueDmaAs 𝒱 c bd Set.univ ix N hN) $$ [Hs Hγ] [Hγ']
  · isplitl [Hs]; · iexact Hs
    iapply (stream_writeUpdate EC c hB)
    isplitr; · iexact Hi
    iexact Hγ
  · iapply (flight_creditUpdate EC (δ := δ'))
    isplitr; · iexact Hinv
    iexact Hγ'
  iintro Hcred
  iapply Hk $$ %γ %δ %ι Hi Hδ
  iapply (flight_intro EC c (κ := κ))
  isplitr; · iexact Hinv
  isplitl [Hδ'] <;> iassumption

/-- A resource `R` through which the whole of a memref can be loaded, its contents known to be `f` on the elements `A`. -/
def Readable {cs : CoreSpace} (m : Memref sig c.2.kind cs s e) (A : Finset (Idx (m.view.loc c))) (f : Buf Val (m.view.loc c))
    (R : sProp 𝕄) : Prop :=
  ∀ (defs : Defs nD τ sig Val Λ) (bd : Option 𝒱.V) (E : Set Name), E = Set.univ → ∀ {α : Type} {Q : α → sProp 𝕄} {r : LoadRect s} {hl : m.view.LoadsAt r}
    {k : (r.shape.Idx → Val e) → Prog (TpuEff nD τ sig Val Λ c.2) α},
    R ⊢ iprop((∀ cur : Buf Val (m.view.loc c), ⌜∀ i ∈ A, cur i = f i⌝ -∗ R -∗ wp frame (wpE defs 𝒱 c bd) E (k (m.view.readAt Val r cur)) Q)
        -∗ wp frame (wpE defs 𝒱 c bd) E (.op (.load m r hl) k) Q)

/-- Held outright, all of it is known. -/
theorem readable_pointsTo {cs : CoreSpace} (m : Memref sig c.2.kind cs s e) (f : Buf Val (m.view.loc c)) (q : PosShare TreeShare) :
    Readable (Λ := Λ) c 𝒱 m Finset.univ f (m.view.loc c ↦[Finset.univ]{q} f : sProp 𝕄) := by
  intro defs bd E hE α Q r hl k
  iintro H Hk
  iapply (wp_load 𝒱 c bd E (Finset.subset_univ _)) $$ H
  iintro H
  iapply Hk $$ %f %(fun _ _ => rfl) H

/-- With the elements off `A` in the invariant and those of `A` held outright, the latter are known. -/
theorem readable_inflight [EC.LandsIn (upEmb : UEmb _ 𝕄)] {cs : CoreSpace} (m : Memref sig c.2.kind cs s e)
    (r₂ : Rect s) (h₂ : ∀ a, r₂.stride a = 1)
    (A : Finset (Idx (m.view.loc c))) (f₀ : Buf Val (m.view.loc c)) (w : r₂.shape.Idx → Val e) (γ δ : ℕ) (ι : Name)
    (f : Buf Val (m.view.loc c)) :
    Readable (Λ := Λ) c 𝒱 m A f (iprop(inv ι (streamBody EC c (m.slice r₂ h₂).view (Finset.univ \ A) f₀ w γ δ) ∗ tok EC δ
        ∗ (m.view.loc c ↦[A]{fullShare} f)) : sProp 𝕄) := by
  intro defs bd E hE α Q r hl k
  subst hE
  iintro ⟨#Hinv, Hδ, Hf⟩ Hk
  imod (inv_acc (Set.mem_univ ι)) $$ Hinv with ⟨Hb, Hclose⟩
  unfold streamBody
  icases Hb with (⟨%M₁, Hv, Hγa⟩ | ⟨Hδ', -⟩)
  · imodintro
    ihave Hj := (pointsTo_join_subset (ℓ := m.view.loc c) (S := Finset.univ) (Finset.subset_univ A)) $$ [Hf Hv]
    · isplitl [Hf]; · iexact Hf
      iexact Hv
    iapply (fp_load c (Finset.subset_univ _)) $$ Hj
    iintro Hj
    ihave Hs := (pointsTo_split_subset (ℓ := m.view.loc c) (S := Finset.univ) (Finset.subset_univ A)).1 $$ Hj
    icases Hs with ⟨Hf, Hv⟩
    ihave Hc := Hclose $$ [Hv Hγa]
    · ileft; iexists M₁
      isplitl [Hv]
      · ihave Hv := (Entails.of_eq (pointsTo_congr (ℓ := m.view.loc c) (I := Finset.univ \ A)
          (fun i hi => Finset.piecewise_eq_of_notMem A f _ (Finset.mem_sdiff.mp hi).2))) $$ Hv
        iexact Hv
      iexact Hγa
    imod Hc
    imodintro
    iapply Hk $$ %_ %(fun i hi => Finset.piecewise_eq_of_mem A f _ hi) [Hδ Hf]
    isplitr; · iexact Hinv
    isplitl [Hδ]; · iexact Hδ
    ihave Hf := (Entails.of_eq (pointsTo_congr (ℓ := m.view.loc c) (I := A)
      (fun i hi => Finset.piecewise_eq_of_mem A f _ hi))) $$ Hf
    iexact Hf
  · iexfalso; iapply (count_count_false EC); isplitl [Hδ'] <;> iassumption

end Cert.InFlight
-- ==== Proof.Rows.lean ====
/- The rows of the SparseCore task: what it loads of a row, what it stores of one, and the row's region run once for both
   loops. -/
module

public import proofs.«01_k».proof.Proof.Spec
public import proofs.«01_k».proof.Proof.InFlight
public import Idealize.ShloMosaic.Lib.Pointwise.Index
public import Idealize.ShloMosaic.Lib.Pointwise.Reshape
public import Idealize.ShloMosaic.Lib.Pipeline.Value
public import Idealize.ShloMosaic.Lib.SparseCore.Quiescent
public import Idealize.ShloMosaic.Lib.SparseCore.Ops

@[expose] public section

noncomputable section

namespace Cert.KernelIdeal.Row

open Idealize.ShloMosaic Idealize.SL.Sem
open Cert.KernelIdeal Cert.KernelIdeal.Gen

variable {F : FTy → Type} [FloatOps F] {α : Type}

/-! ## The experts chosen are experts -/

theorem lane_apply (x : S16.Idx → α) (j : Nat) (h : j < 16) (l : S16.Idx) : lane x j h l = x (ix1 ⟨j, h⟩) := by
  unfold lane
  rw [show shapeCast S1 (extractStridedSlice S1 ![j] x (lane_slices h)) shapeCasts_S1_S1 = _ from shapeCast_self _ _]
  show x _ = x _
  congr 1
  funext a
  fin_cases a
  rfl

/-- What holds of every lane holds of every lane moved to a place. -/
theorem placeTo_all {p : α → Prop} (r : IVec S16 32) {x : S16.Idx → α} (hx : ∀ l, p (x l)) :
    ∀ (n : Nat) (h : n ≤ 16) (l : S16.Idx), p (placeTo r x n h l)
  | 0, _, l => hx l
  | n + 1, h, l => by
    simp only [placeTo, select, Scalar.select]
    split
    · rw [lane_apply]; exact hx _
    · exact placeTo_all r hx n _ l

/-- What holds of every lane holds of every lane taken. -/
theorem takeTo_all {p : α → Prop} (idx : IVec S16 32) {x : S16.Idx → α} (hx : ∀ l, p (x l)) :
    ∀ (n : Nat) (h : n < 16) (l : S16.Idx), p (takeTo x idx n h l)
  | 0, _, l => by simp only [takeTo]; rw [lane_apply]; exact hx _
  | n + 1, h, l => by
    simp only [takeTo, select, Scalar.select]
    split
    · rw [lane_apply]; exact hx _
    · exact takeTo_all idx hx n _ l

theorem place_all {p : α → Prop} (r : IVec S16 32) {x : S16.Idx → α} (hx : ∀ l, p (x l)) (l : S16.Idx) : p (place r x l) :=
  placeTo_all r hx 16 _ l

/-- What holds of every lane of four segments holds of every lane of their merge. -/
theorem mergeBy_all {p : α → Prop} (k0 k1 k2 k3 : FVec F S16 .f32) {x0 x1 x2 x3 : S16.Idx → α}
    (h0 : ∀ l, p (x0 l)) (h1 : ∀ l, p (x1 l)) (h2 : ∀ l, p (x2 l)) (h3 : ∀ l, p (x3 l)) (l : S16.Idx) :
    p (mergeBy k0 k1 k2 k3 x0 x1 x2 x3 l) := by
  simp only [mergeBy, select, Scalar.select]
  split
  · split
    · exact place_all _ h0 l
    · exact takeTo_all _ (place_all _ h1) _ _ l
  · split
    · exact takeTo_all _ (place_all _ h2) _ _ l
    · exact takeTo_all _ (place_all _ h3) _ _ l

/-- Lane `l` of a segment's expert numbers is `l` past the segment's start. -/
theorem experts_toNat (o : Nat) (ho : o ≤ 48) (l : S16.Idx) : (experts (BitVec.ofNat 32 o) l).toNat = o + (l 0).val := by
  have hl : (l 0).val < 16 := (l 0).isLt
  show (BitVec.ofNat 32 (0 * 16 + (l 0).val) + BitVec.ofNat 32 o).toNat = _
  rw [BitVec.toNat_add, BitVec.toNat_ofNat, BitVec.toNat_ofNat]
  omega

/-- Every expert number of the row is below 64. -/
theorem best_lt (k0 k1 k2 k3 : FVec F S16 .f32) (l : S16.Idx) : (best k0 k1 k2 k3 l).toNat < 64 := by
  have hb : ∀ o, o ≤ 48 → ∀ l : S16.Idx, (experts (BitVec.ofNat 32 o) l).toNat < 64 := fun o ho l => by
    have hl : (l 0).val < 16 := (l 0).isLt
    rw [experts_toNat o ho l]; omega
  exact place_all (p := fun v : BitVec 32 => v.toNat < 64) _
    (mergeBy_all (p := fun v : BitVec 32 => v.toNat < 64) _ _ _ _ (hb 0 (by decide)) (hb 16 (by decide)) (hb 32 (by decide)) (hb 48 (by decide))) l

/-! ## A row's results -/

/-- Sixteen lanes of a row of 64, from `o`. -/
def segOf (p : Fin 64 → F .f32) (o : ℕ) (ho : o + 16 ≤ 64) : Vec F S16 .f32 :=
  fun l => p ⟨o + (l 0).val, lt_of_lt_of_le (Nat.add_lt_add_left (show (l 0).val < 16 from (l 0).isLt) o) ho⟩

/-- A row's expert numbers, from its probabilities `p` and the bias `b`. -/
def chosen (p b : Fin 64 → F .f32) : IVec S16 32 :=
  best (addf (segOf p 0 (by decide)) (segOf b 0 (by decide))) (addf (segOf p 16 (by decide)) (segOf b 16 (by decide)))
    (addf (segOf p 32 (by decide)) (segOf b 32 (by decide))) (addf (segOf p 48 (by decide)) (segOf b 48 (by decide)))

theorem chosen_lt (p b : Fin 64 → F .f32) (l : S16.Idx) : (chosen p b l).toNat < 64 := best_lt _ _ _ _ l

/-- A row's weights: the probabilities at its expert numbers. -/
def weights (p b : Fin 64 → F .f32) : Vec F S16 .f32 := fun l => p ⟨(chosen p b l).toNat, chosen_lt p b l⟩

/-! ## Rows of the scratches -/

/-- A task's scratches: its rows of probabilities, the bias, its rows of weights and of experts. -/
abbrev sP : Memref sig .scVector .vmem S256x64 .f32 := Memref.whole cc1_scratch0
abbrev sB : Memref sig .scVector .vmem S64 .f32 := Memref.whole cc1_scratch1
abbrev sW : Memref sig .scVector .vmem S256x16 .f32 := Memref.whole cc1_scratch2
abbrev sI : Memref sig .scVector .vmem S256x16 .i32 := Memref.whole cc1_scratch3

/-- Sixteen lanes of a row of the probabilities, loaded. -/
theorem readAt_sP (f : S256x64.Idx → F .f32) (R C : ℕ) (hR : R < 256) (hC : C + 16 ≤ 64) {o : Fin 2 → ℕ} (ho : o = ![R, C])
    (inb : ∀ a, o a + S1x16.size a ≤ S256x64.size a) (x : S1x16.Idx) :
    (sP : Memref sig .scVector .vmem S256x64 .f32).view.readAt (Elt F) (Rect.unit (s := S256x64) o S1x16.size inb).toLoadRect f x
      = f (ix2 (⟨R, hR⟩ : Fin 256) (⟨C + (x 1).val, lt_of_lt_of_le (Nat.add_lt_add_left (x 1).isLt C) hC⟩ : Fin 64)) := by
  subst ho
  show f _ = f _
  congr 1
  funext a
  have h0 : (x 0).val = 0 := by have : (x 0).val < 1 := (x 0).isLt; omega
  fin_cases a
  · exact Fin.ext (by show R + 1 * (x 0).val = R; omega)
  · exact Fin.ext (by show C + 1 * (x 1).val = C + (x 1).val; omega)

/-- A row of sixteen lanes, stored into an array of 256. -/
theorem read_write_row {e : EltTy} (v : View sig .scVector .vmem S256x16 e) (f : v.ty.Contents (Elt F)) (R : ℕ) (hR : R < 256)
    {o : Fin 2 → ℕ} (ho : o = ![R, 0]) (inb : ∀ a, o a + S1x16.size a ≤ S256x16.size a) (w : Vec F S16 e) (r : Fin 256) (l : Fin 16) :
    v.read (Elt F) ((v.slice (Rect.unit (s := S256x16) o S1x16.size inb)).write (Elt F) f
        (shapeCast S1x16 w shapeCasts_S16_S1x16) Finset.univ) (ix2 r l)
      = if r.val = R then w (ix1 l) else v.read (Elt F) f (ix2 r l) := by
  subst ho
  split
  case isTrue h =>
    have hx : v.emb (ix2 r l) = (v.slice (Rect.unit (s := S256x16) ![R, 0] S1x16.size inb)).emb (ix2 (0 : Fin 1) l) := by
      show v.emb _ = v.emb _
      congr 1
      funext a
      fin_cases a
      · exact Fin.ext (by show r.val = R + 1 * 0; omega)
      · exact Fin.ext (by show l.val = 0 + 1 * l.val; omega)
    rw [View.read_apply, hx, View.write_emb_of_mem _ _ (Finset.mem_univ _), cast_cast]
    rw [show shapeCast S1x16 w shapeCasts_S16_S1x16 (ix2 (0 : Fin 1) l) = w _ from shapeCast_addUnit_apply ![16] w shapeCasts_S16_S1x16 (ix2 (0 : Fin 1) l)]
    simp only [cast_eq]
    congr 1
    funext a
    fin_cases a
    rfl
  case isFalse h =>
    rw [View.read_apply, View.read_apply, View.write_of_not_mem]
    intro hm
    rw [View.setOn_univ] at hm
    obtain ⟨y, -, hy⟩ := Finset.mem_map.1 hm
    have h2 := v.emb.injective (show v.emb ((Rect.unit (s := S256x16) ![R, 0] S1x16.size inb).emb y) = v.emb (ix2 r l) from hy)
    have h3 : R + 1 * (y 0).val = r.val := congrArg (fun z : S256x16.Idx => (z 0).val) h2
    have h0 : (y 0).val < 1 := (y 0).isLt
    omega

/-! ## The row's region, once for both loops -/

section Region

open Idealize.SL Idealize.SL.RA
open Idealize.SL.BI (sProp)
open scoped Idealize.SL.BI
open Idealize.SL.BI.BIBase Idealize.SL.BI.Laws Idealize.SL.ProofMode
open Cert.InFlight

/-- A row's region from its check on, at the row's expert numbers `e`. -/
def rowRest (i : grid1.Coords) (oS : Fin 2 → ℕ) (hS : ∀ a, oS a + S1x16.size a ≤ S256x16.size a) (r e : IVec S16 32) :
    Prog (TpuEff nD τ sig (Elt F) Λ₀ (.scVector ((i 0).castLE hcore1) ((i 1).castLE hsub1))) Unit :=
  .op (.assume (k1_chk1 e r) (k1_chk1.dec e r)) fun hw =>
  .op (.load sP (.whole S256x64) (View.loadsAt_whole (View.loads_vmem h_S256x64))) fun f =>
  .op (.load sW (Rect.unit (s := S256x16) oS S1x16.size hS).toLoadRect (View.loadsAt_vmem h_S1x16)) fun _ =>
  .op (.store sW (Rect.unit (s := S256x16) oS S1x16.size hS)
    (shapeCast S1x16 (loadIdx f ![r, e] (k1_idx1_inb e r hw.down)) shapeCasts_S16_S1x16) Finset.univ (View.stores_vmem_bits_univ h_S1x16 rfl) (.inl rfl)) fun _ =>
  .op (.load sI (Rect.unit (s := S256x16) oS S1x16.size hS).toLoadRect (View.loadsAt_vmem h_S1x16)) fun _ =>
  .op (.store sI (Rect.unit (s := S256x16) oS S1x16.size hS) (shapeCast S1x16 e shapeCasts_S16_S1x16) Finset.univ (View.stores_vmem_bits_univ h_S1x16 rfl) (.inl rfl)) fun _ =>
  .ret ()

/-- A row's region: four loads, the row's function, the gather, and the row's two results stored. -/
def rowProg (i : grid1.Coords) (o0 o1 o2 o3 oS : Fin 2 → ℕ)
    (h0 : ∀ a, o0 a + S1x16.size a ≤ S256x64.size a) (h1 : ∀ a, o1 a + S1x16.size a ≤ S256x64.size a)
    (h2 : ∀ a, o2 a + S1x16.size a ≤ S256x64.size a) (h3 : ∀ a, o3 a + S1x16.size a ≤ S256x64.size a)
    (hS : ∀ a, oS a + S1x16.size a ≤ S256x16.size a) (row : BitVec 32) (b0 b1 b2 b3 : Vec F S16 .f32) :
    Prog (TpuEff nD τ sig (Elt F) Λ₀ (.scVector ((i 0).castLE hcore1) ((i 1).castLE hsub1))) Unit :=
  .op (.load sP (Rect.unit (s := S256x64) o0 S1x16.size h0).toLoadRect (View.loadsAt_vmem h_S1x16)) fun x0 =>
  .op (.load sP (Rect.unit (s := S256x64) o1 S1x16.size h1).toLoadRect (View.loadsAt_vmem h_S1x16)) fun x1 =>
  .op (.load sP (Rect.unit (s := S256x64) o2 S1x16.size h2).toLoadRect (View.loadsAt_vmem h_S1x16)) fun x2 =>
  .op (.load sP (Rect.unit (s := S256x64) o3 S1x16.size h3).toLoadRect (View.loadsAt_vmem h_S1x16)) fun x3 =>
  rowRest i oS hS (broadcast S16 row) (best (score x0 b0) (score x1 b1) (score x2 b2) (score x3 b3))

section Eqs

variable (i : grid1.Coords) (arg2 : Memref sig .scVector .hbm S8192x64 .f32) (harg2 : arg2.IsWhole) (arg3 : Memref sig .scVector .hbm S64 .f32) (harg3 : arg3.IsWhole) (arg4 : Memref sig .scVector .hbm S8192x16 .f32) (harg4 : arg4.IsWhole) (arg5 : Memref sig .scVector .hbm S8192x16 .i32) (harg5 : arg5.IsWhole)
  (harg6 : (sP : Memref sig .scVector .vmem S256x64 .f32).IsWhole) (harg7 : (sB : Memref sig .scVector .vmem S64 .f32).IsWhole) (harg8 : (sW : Memref sig .scVector .vmem S256x16 .f32).IsWhole) (harg9 : (sI : Memref sig .scVector .vmem S256x16 .i32).IsWhole)
  (arg10 arg11 v51_r0 v51_r1 v51_r2 : DmaSems sig S_)

/-- A trip of the first loop is a row's region. -/
theorem t1_body_eq (b0 b1 b2 b3 : Vec F S16 .f32) (t : Fin k1_t1_loop.trips) (u : Unit) :
    k1_t1_body i arg2 harg2 arg3 harg3 arg4 harg4 arg5 harg5 sP harg6 sB harg7 sW harg8 sI harg9 arg10 arg11 v51_r0 v51_r1 v51_r2 b0 b1 b2 b3
        (experts 0#32) (experts 16#32) (experts 32#32) (experts 48#32) lanes (broadcast S16 8#32) t u
      = rowProg i (k1_off3 t) (k1_off4 t) (k1_off5 t) (k1_off6 t) (k1_off7 t) (k1_off3_inb t) (k1_off4_inb t) (k1_off5_inb t) (k1_off6_inb t)
          (k1_off7_inb t) (row1 t) b0 b1 b2 b3 := by
  unfold k1_t1_body
  rw [part36_eq]
  rfl

/-- A trip of the second loop is a row's region. -/
theorem t2_body_eq (b0 b1 b2 b3 : Vec F S16 .f32) (t : Fin k1_t2_loop.trips) (u : Unit) :
    k1_t2_body i arg2 harg2 arg3 harg3 arg4 harg4 arg5 harg5 sP harg6 sB harg7 sW harg8 sI harg9 arg10 arg11 v51_r0 v51_r1 v51_r2 b0 b1 b2 b3
        (experts 0#32) (experts 16#32) (experts 32#32) (experts 48#32) lanes (broadcast S16 8#32) t u
      = rowProg i (k1_off8 t) (k1_off9 t) (k1_off10 t) (k1_off11 t) (k1_off12 t) (k1_off8_inb t) (k1_off9_inb t) (k1_off10_inb t) (k1_off11_inb t)
          (k1_off12_inb t) (row2 t) b0 b1 b2 b3 := by
  unfold k1_t2_body
  rw [part72_eq]
  rfl

end Eqs

/-- The score of a loaded segment. -/
theorem score_sP {f cur : S256x64.Idx → F .f32} (R C : ℕ) (hR : R < 256) (hC : C + 16 ≤ 64) {o : Fin 2 → ℕ} (ho : o = ![R, C])
    (inb : ∀ a, o a + S1x16.size a ≤ S256x64.size a) (hcur : ∀ c : Fin 64, cur (ix2 (⟨R, hR⟩ : Fin 256) c) = f (ix2 (⟨R, hR⟩ : Fin 256) c))
    (b : Vec F S16 .f32) :
    score ((sP : Memref sig .scVector .vmem S256x64 .f32).view.readAt (Elt F) (Rect.unit (s := S256x64) o S1x16.size inb).toLoadRect cur) b
      = addf (segOf (fun c => f (ix2 (⟨R, hR⟩ : Fin 256) c)) C hC) b := by
  unfold score
  congr 1
  funext l
  rw [show shapeCast S16 _ shapeCasts_S1x16_S16 l = _ from shapeCast_dropUnit_apply ![16] _ shapeCasts_S1x16_S16 l]
  rw [show (sP : Memref sig .scVector .vmem S256x64 .f32).view.readAt (Elt F) (Rect.unit (s := S256x64) o S1x16.size inb).toLoadRect cur
      (Fin.cons ⟨0, Nat.one_pos⟩ l) = _ from readAt_sP cur R C hR hC ho inb _]
  exact hcur _

variable {Ix : Type} [DecidableEq Ix] {Name : Type} [DecidableEq Name] {U : Type} [URA U] {Lvl : Type} [Preorder Lvl]

local notation "𝕄" => MT nD τ sig Ix (Elt F) Name U Lvl

/-- The thread that runs the tile at coordinates `i`. -/
abbrev thr (d : Dev nD) (i : grid1.Coords) : Thread nD τ := SparseCore.V d ((i 0).castLE hcore1) ((i 1).castLE hsub1)

/-- From the check on: the checked row's results are stored. -/
theorem wp_rowRest (d : Dev nD) (i : grid1.Coords) {defs : Defs nD τ sig (Elt F) Λ₀} (𝒱 : Variants) (bd : Option 𝒱.V)
    {A : Finset S256x64.Idx} {f : S256x64.Idx → F .f32} {P : sProp 𝕄}
    (hP : Readable (Λ := Λ₀) (thr d i) 𝒱 (sP : Memref sig .scVector .vmem S256x64 .f32) A f P)
    (R : ℕ) (hR : R < 256) (hA : ∀ c : Fin 64, ix2 (⟨R, hR⟩ : Fin 256) c ∈ A) {oS : Fin 2 → ℕ} (eS : oS = ![R, 0])
    (hS : ∀ a, oS a + S1x16.size a ≤ S256x16.size a) (row : BitVec 32) (hrow : row.toNat = R) (e : IVec S16 32) (he : ∀ l, (e l).toNat < 64)
    (g : S256x16.Idx → F .f32) (g' : S256x16.Idx → BitVec 32) {Q : Unit → sProp 𝕄} :
    iprop(P ∗ ((sW : Memref sig .scVector .vmem S256x16 .f32).view.loc (thr d i) ↦{fullShare} g)
        ∗ ((sI : Memref sig .scVector .vmem S256x16 .i32).view.loc (thr d i) ↦{fullShare} g'))
      ⊢ iprop((∀ (w : S256x16.Idx → F .f32) (w' : S256x16.Idx → BitVec 32),
            ⌜∀ (r : Fin 256) (l : Fin 16),
                w (ix2 r l) = (if r.val = R then f (ix2 (⟨R, hR⟩ : Fin 256) ⟨(e (ix1 l)).toNat, he _⟩) else g (ix2 r l))
                ∧ w' (ix2 r l) = (if r.val = R then e (ix1 l) else g' (ix2 r l))⌝
            -∗ P -∗ ((sW : Memref sig .scVector .vmem S256x16 .f32).view.loc (thr d i) ↦{fullShare} w)
            -∗ ((sI : Memref sig .scVector .vmem S256x16 .i32).view.loc (thr d i) ↦{fullShare} w') -∗ Q ())
        -∗ wp frame (wpE defs 𝒱 (thr d i) bd) Set.univ (rowRest i oS hS (broadcast S16 row) e) Q) := by
  have hchk : k1_chk1 e (broadcast S16 row) := by
    intro a x
    fin_cases a
    · show row.toNat < 256; omega
    · exact he x
  unfold rowRest
  iintro ⟨HP, HW, HI⟩ Hk
  rw [wp_assume_of 𝒱 (thr d i) bd Set.univ hchk]
  iapply (hP defs bd Set.univ rfl) $$ HP
  iintro %c0 %hc0 HP
  iapply (wp_load 𝒱 (thr d i) bd Set.univ (Finset.subset_univ _)) $$ HW
  iintro HW
  iapply (wp_store 𝒱 (thr d i) bd Set.univ (m := sW) (r := Rect.unit (s := S256x16) oS S1x16.size hS) (S := Finset.univ) (f := g) (Finset.subset_univ _)) $$ HW
  iintro HW
  iapply (wp_load 𝒱 (thr d i) bd Set.univ (Finset.subset_univ _)) $$ HI
  iintro HI
  iapply (wp_store 𝒱 (thr d i) bd Set.univ (m := sI) (r := Rect.unit (s := S256x16) oS S1x16.size hS) (S := Finset.univ) (f := g') (Finset.subset_univ _)) $$ HI
  iintro HI
  rw [wp_ret]
  imodintro
  iapply Hk $$ %_ %_ %?_ HP HW HI
  intro r l
  have hg := read_write_row (F := F) (View.whole cc1_scratch2) g R hR eS hS (loadIdx ((sP : Memref sig .scVector .vmem S256x64 .f32).view.readAt (Elt F) (LoadRect.whole _) c0) ![broadcast S16 row, e] (k1_idx1_inb e (broadcast S16 row) hchk)) r l
  have hg' := read_write_row (F := F) (View.whole cc1_scratch3) g' R hR eS hS e r l
  refine ⟨?_, hg'⟩
  refine hg.trans ?_
  split
  · rw [show (sP : Memref sig .scVector .vmem S256x64 .f32).view.readAt (Elt F) (LoadRect.whole _) c0 = c0 from Memref.readAt_whole (Elt F) cc1_scratch0 c0]
    refine Eq.trans ?_ (hc0 _ (hA _))
    show c0 _ = c0 _
    congr 1
    funext a
    fin_cases a
    · exact Fin.ext hrow
    · rfl
  · rfl

/-- Running a row's region: the row's results stand in its row of the two result scratches, the other rows as they were. -/
theorem wp_row (d : Dev nD) (i : grid1.Coords) {defs : Defs nD τ sig (Elt F) Λ₀} (𝒱 : Variants) (bd : Option 𝒱.V)
    {A : Finset S256x64.Idx} {f : S256x64.Idx → F .f32} {P : sProp 𝕄}
    (hP : Readable (Λ := Λ₀) (thr d i) 𝒱 (sP : Memref sig .scVector .vmem S256x64 .f32) A f P)
    (R : ℕ) (hR : R < 256) (hA : ∀ c : Fin 64, ix2 (⟨R, hR⟩ : Fin 256) c ∈ A)
    {o0 o1 o2 o3 oS : Fin 2 → ℕ} (e0 : o0 = ![R, 0]) (e1 : o1 = ![R, 16]) (e2 : o2 = ![R, 32]) (e3 : o3 = ![R, 48]) (eS : oS = ![R, 0])
    (h0 : ∀ a, o0 a + S1x16.size a ≤ S256x64.size a) (h1 : ∀ a, o1 a + S1x16.size a ≤ S256x64.size a)
    (h2 : ∀ a, o2 a + S1x16.size a ≤ S256x64.size a) (h3 : ∀ a, o3 a + S1x16.size a ≤ S256x64.size a)
    (hS : ∀ a, oS a + S1x16.size a ≤ S256x16.size a) (row : BitVec 32) (hrow : row.toNat = R) (b : Fin 64 → F .f32)
    (g : S256x16.Idx → F .f32) (g' : S256x16.Idx → BitVec 32) {Q : Unit → sProp 𝕄} :
    iprop(P ∗ ((sW : Memref sig .scVector .vmem S256x16 .f32).view.loc (thr d i) ↦{fullShare} g)
        ∗ ((sI : Memref sig .scVector .vmem S256x16 .i32).view.loc (thr d i) ↦{fullShare} g'))
      ⊢ iprop((∀ (w : S256x16.Idx → F .f32) (w' : S256x16.Idx → BitVec 32),
            ⌜∀ (r : Fin 256) (l : Fin 16),
                w (ix2 r l) = (if r.val = R then weights (fun c => f (ix2 (⟨R, hR⟩ : Fin 256) c)) b (ix1 l) else g (ix2 r l))
                ∧ w' (ix2 r l) = (if r.val = R then chosen (fun c => f (ix2 (⟨R, hR⟩ : Fin 256) c)) b (ix1 l) else g' (ix2 r l))⌝
            -∗ P -∗ ((sW : Memref sig .scVector .vmem S256x16 .f32).view.loc (thr d i) ↦{fullShare} w)
            -∗ ((sI : Memref sig .scVector .vmem S256x16 .i32).view.loc (thr d i) ↦{fullShare} w') -∗ Q ())
        -∗ wp frame (wpE defs 𝒱 (thr d i) bd) Set.univ
            (rowProg i o0 o1 o2 o3 oS h0 h1 h2 h3 hS row (segOf b 0 (by decide)) (segOf b 16 (by decide)) (segOf b 32 (by decide)) (segOf b 48 (by decide))) Q) := by
  have key : ∀ {cur : S256x64.Idx → F .f32}, (∀ x ∈ A, cur x = f x) → ∀ c : Fin 64, cur (ix2 (⟨R, hR⟩ : Fin 256) c) = f (ix2 (⟨R, hR⟩ : Fin 256) c) :=
    fun h c => h _ (hA c)
  unfold rowProg
  iintro ⟨HP, HW, HI⟩ Hk
  iapply (hP defs bd Set.univ rfl) $$ HP
  iintro %c0 %hc0 HP
  iapply (hP defs bd Set.univ rfl) $$ HP
  iintro %c1 %hc1 HP
  iapply (hP defs bd Set.univ rfl) $$ HP
  iintro %c2 %hc2 HP
  iapply (hP defs bd Set.univ rfl) $$ HP
  iintro %c3 %hc3 HP
  have s0 := score_sP R 0 hR (by decide) e0 h0 (key hc0) (segOf b 0 (by decide))
  have s1 := score_sP R 16 hR (by decide) e1 h1 (key hc1) (segOf b 16 (by decide))
  have s2 := score_sP R 32 hR (by decide) e2 h2 (key hc2) (segOf b 32 (by decide))
  have s3 := score_sP R 48 hR (by decide) e3 h3 (key hc3) (segOf b 48 (by decide))
  rw [s0, s1, s2, s3]
  iapply (wp_rowRest (defs := defs) d i 𝒱 bd hP R hR hA eS hS row hrow (chosen (fun c => f (ix2 (⟨R, hR⟩ : Fin 256) c)) b)
    (chosen_lt _ _) g g' (Q := Q)) $$ [HP HW HI]
  · isplitl [HP]; · iexact HP
    isplitl [HW] <;> iassumption
  iexact Hk

end Region

end Cert.KernelIdeal.Row

end
-- ==== Proof.Task.lean ====
/- The SparseCore task as its transfers and its two loops of row regions. -/
module

public import proofs.«01_k».proof.Proof.Rows

@[expose] public section

noncomputable section

namespace Cert.KernelIdeal.Row

open Idealize.ShloMosaic Idealize.SL.Sem
open Cert.KernelIdeal Cert.KernelIdeal.Gen

variable {F : FTy → Type} [FloatOps F]

/-- The probabilities, the bias and the two results, as a task names them. -/
abbrev hP : Memref sig .scVector .hbm S8192x64 .f32 := Memref.whole main_v0_scv
abbrev hB : Memref sig .scVector .hbm S64 .f32 := Memref.whole main_arg2_scv
abbrev hW : Memref sig .scVector .hbm S8192x16 .f32 := Memref.whole main_v1_0_scv
abbrev hI : Memref sig .scVector .hbm S8192x16 .i32 := Memref.whole main_v1_1_scv

/-- The two halves of a task's rows of probabilities, and where they are fetched to. -/
abbrev src1 (i : grid1.Coords) : Memref sig .scVector .hbm S128x64 .f32 :=
  hP.slice (Rect.unit (s := S8192x64) (k1_off1 i) S128x64.size (k1_off1_inb i)) (fun _ => rfl)
abbrev src2 (i : grid1.Coords) : Memref sig .scVector .hbm S128x64 .f32 :=
  hP.slice (Rect.unit (s := S8192x64) (k1_off2 i) S128x64.size (k1_off2_inb i)) (fun _ => rfl)
abbrev rect1 : Rect S256x64 := Rect.unit (s := S256x64) ![0, 0] S128x64.size inb_S256x64_S128x64_0_0
abbrev rect2 : Rect S256x64 := Rect.unit (s := S256x64) ![128, 0] S128x64.size inb_S256x64_S128x64_128_0
abbrev dst1 : Memref sig .scVector .vmem S128x64 .f32 := sP.slice rect1 (fun _ => rfl)
abbrev dst2 : Memref sig .scVector .vmem S128x64 .f32 := sP.slice rect2 (fun _ => rfl)
/-- The rows of the results a task writes. -/
abbrev outW (i : grid1.Coords) : Memref sig .scVector .hbm S256x16 .f32 :=
  hW.slice (Rect.unit (s := S8192x16) (k1_off13 i) S256x16.size (k1_off13_inb i)) (fun _ => rfl)
abbrev outI (i : grid1.Coords) : Memref sig .scVector .hbm S256x16 .i32 :=
  hI.slice (Rect.unit (s := S8192x16) (k1_off13 i) S256x16.size (k1_off13_inb i)) (fun _ => rfl)

/-- The first loop's region. -/
def trip1 (i : grid1.Coords) (b0 b1 b2 b3 : Vec F S16 .f32) (t : Fin k1_t1_loop.trips) (_ : Unit) :
    Prog (TpuEff nD τ sig (Elt F) Λ₀ (.scVector ((i 0).castLE hcore1) ((i 1).castLE hsub1))) Unit :=
  rowProg i (k1_off3 t) (k1_off4 t) (k1_off5 t) (k1_off6 t) (k1_off7 t) (k1_off3_inb t) (k1_off4_inb t) (k1_off5_inb t) (k1_off6_inb t)
    (k1_off7_inb t) (row1 t) b0 b1 b2 b3

/-- The second loop's region. -/
def trip2 (i : grid1.Coords) (b0 b1 b2 b3 : Vec F S16 .f32) (t : Fin k1_t2_loop.trips) (_ : Unit) :
    Prog (TpuEff nD τ sig (Elt F) Λ₀ (.scVector ((i 0).castLE hcore1) ((i 1).castLE hsub1))) Unit :=
  rowProg i (k1_off8 t) (k1_off9 t) (k1_off10 t) (k1_off11 t) (k1_off12 t) (k1_off8_inb t) (k1_off9_inb t) (k1_off10_inb t) (k1_off11_inb t)
    (k1_off12_inb t) (row2 t) b0 b1 b2 b3

/-- The task after its bias is loaded: the first half waited for, its rows, the second half, its rows, the results out. -/
def taskRest (i : grid1.Coords) (b0 b1 b2 b3 : Vec F S16 .f32) :
    Prog (TpuEff nD τ sig (Elt F) Λ₀ (.scVector ((i 0).castLE hcore1) ((i 1).castLE hsub1))) PUnit :=
  .op (.waitDma2 cc1_scratch4.sem (src1 i) dst1 (View.wordExact_bits rfl) (View.wordExact_bits rfl)) fun _ =>
  (Scf.Loop.for k1_t1_loop k1_t1_ok ⟨⟩ (trip1 i b0 b1 b2 b3)) >>= fun _ =>
  .op (.waitDma2 cc1_scratch5.sem (src2 i) dst2 (View.wordExact_bits rfl) (View.wordExact_bits rfl)) fun _ =>
  (Scf.Loop.for k1_t2_loop k1_t2_ok ⟨⟩ (trip2 i b0 b1 b2 b3)) >>= fun _ =>
  .op (.enqueueDma sW (.here (outW i)) (.dma cc1_scoped1.sem) (Memref.isWhole_whole _).wordExact (View.wordExact_bits rfl) ⟨Or.inl rfl, trivial⟩) fun _ =>
  .op (.waitDma2 cc1_scoped1.sem sW (outW i) (Memref.isWhole_whole _).wordExact (View.wordExact_bits rfl)) fun _ =>
  .op (.enqueueDma sI (.here (outI i)) (.dma cc1_scoped2.sem) (Memref.isWhole_whole _).wordExact (View.wordExact_bits rfl) ⟨Or.inl rfl, trivial⟩) fun _ =>
  .op (.waitDma2 cc1_scoped2.sem sI (outI i) (Memref.isWhole_whole _).wordExact (View.wordExact_bits rfl)) fun _ =>
  .ret ⟨⟩

/-- The whole task. -/
def taskProg (i : grid1.Coords) :
    Prog (TpuEff nD τ sig (Elt F) Λ₀ (.scVector ((i 0).castLE hcore1) ((i 1).castLE hsub1))) PUnit :=
  .op (.enqueueDma (src1 i) (.here dst1) (.dma cc1_scratch4.sem) (View.wordExact_bits rfl) (View.wordExact_bits rfl) ⟨Or.inl rfl, trivial⟩) fun _ =>
  .op (.enqueueDma (src2 i) (.here dst2) (.dma cc1_scratch5.sem) (View.wordExact_bits rfl) (View.wordExact_bits rfl) ⟨Or.inl rfl, trivial⟩) fun _ =>
  .op (.enqueueDma hB (.here sB) (.dma cc1_scoped0.sem) (Memref.isWhole_whole _).wordExact (Memref.isWhole_whole _).wordExact ⟨Or.inl rfl, trivial⟩) fun _ =>
  .op (.waitDma2 cc1_scoped0.sem hB sB (Memref.isWhole_whole _).wordExact (Memref.isWhole_whole _).wordExact) fun _ =>
  .op (.load sB (Rect.unit (s := S64) ![0] S16.size inb_S64_S16_0).toLoadRect (View.loadsAt_vmem h_S16)) fun b0 =>
  .op (.load sB (Rect.unit (s := S64) ![16] S16.size inb_S64_S16_16).toLoadRect (View.loadsAt_vmem h_S16)) fun b1 =>
  .op (.load sB (Rect.unit (s := S64) ![32] S16.size inb_S64_S16_32).toLoadRect (View.loadsAt_vmem h_S16)) fun b2 =>
  .op (.load sB (Rect.unit (s := S64) ![48] S16.size inb_S64_S16_48).toLoadRect (View.loadsAt_vmem h_S16)) fun b3 =>
  taskRest i b0 b1 b2 b3

/-- The task's body is that program. -/
theorem task_eq (i : grid1.Coords) :
    cc1__sc_topk_body (F := F) i hP (Memref.isWhole_whole _) hB (Memref.isWhole_whole _) hW (Memref.isWhole_whole _) hI (Memref.isWhole_whole _)
        sP (Memref.isWhole_whole _) sB (Memref.isWhole_whole _) sW (Memref.isWhole_whole _) sI (Memref.isWhole_whole _)
        cc1_scratch4 cc1_scratch5 cc1_scoped0 cc1_scoped1 cc1_scoped2 = taskProg i := by
  rw [cc1__sc_topk_body_eq_skeleton]
  unfold cc1__sc_topk_body_skel
  simp only [k1_part73_eq_skeleton, k1_part74_eq_skeleton, k1_part73_skel, k1_part74_skel]
  simp only [Prog.lift, Prog.bind_op, Prog.bind_ret, Prog.pure_eq_ret, bind_assoc]
  unfold taskProg taskRest
  have h1 := fun b0 b1 b2 b3 => funext fun t => funext fun u => (t1_body_eq (F := F) i hP (Memref.isWhole_whole _) hB (Memref.isWhole_whole _) hW (Memref.isWhole_whole _) hI (Memref.isWhole_whole _)
    (Memref.isWhole_whole _) (Memref.isWhole_whole _) (Memref.isWhole_whole _) (Memref.isWhole_whole _) cc1_scratch4 cc1_scratch5 cc1_scoped0 cc1_scoped1 cc1_scoped2 b0 b1 b2 b3 t u)
  have h2 := fun b0 b1 b2 b3 => funext fun t => funext fun u => (t2_body_eq (F := F) i hP (Memref.isWhole_whole _) hB (Memref.isWhole_whole _) hW (Memref.isWhole_whole _) hI (Memref.isWhole_whole _)
    (Memref.isWhole_whole _) (Memref.isWhole_whole _) (Memref.isWhole_whole _) (Memref.isWhole_whole _) cc1_scratch4 cc1_scratch5 cc1_scoped0 cc1_scoped1 cc1_scoped2 b0 b1 b2 b3 t u)
  have e0 : k1_pay407 = experts 0#32 := rfl
  have e1 : k1_pay408 = experts 16#32 := rfl
  have e2 : k1_pay409 = experts 32#32 := rfl
  have e3 : k1_pay410 = experts 48#32 := rfl
  have e4 : k1_pay411 = broadcast S16 8#32 := rfl
  have e5 : iota .scVector S16 32 [0] iota_S16_d0_w32_scVector = lanes := rfl
  simp only [e0, e1, e2, e3, e4, e5, h1, h2]
  rfl

end Cert.KernelIdeal.Row

end
-- ==== Proof.Setup.lean ====
/- The program as its launch sees it, the ghost state, and what each SparseCore task is handed and brings back. -/
module

public import proofs.«01_k».proof.Proof.Task
public import Idealize.ShloMosaic.Lib.StableHlo.Run
public import Idealize.ShloMosaic.Lib.Pipeline.Kit

@[expose] public section

noncomputable section

namespace Cert.KernelIdeal.Launch

open Cert.KernelIdeal Cert.KernelIdeal.Gen Cert.KernelIdeal.Row
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the counters -/

abbrev UH : Type := URounds (GSem nD τ sig) ℕ
abbrev UP : Type := UR sig nD τ
abbrev UU : Type := UH × (UP × Counters)

local notation "𝕄" => MT nD τ sig (HIx 1) (Elt F) ℕ UU ℕ

def EH : Emb UH (MT nD τ sig (HIx 1) (Elt F) ℕ UU ℕ) := embL
def EP : Emb UP (MT nD τ sig (HIx 1) (Elt F) ℕ UU ℕ) := (Emb.inl : Emb UP (UP × Counters)).trans embR
def EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance
instance EC_landsIn : (EC : UEmb Counters 𝕄).LandsIn (upEmb : UEmb _ 𝕄) := by unfold EC; infer_instance

/-! ## The arrays -/

/-- The probabilities, the bias and the two results, as locations of device `d`. -/
abbrev pLoc (d : Dev nD) : Loc nD τ sig := (SparseCore.T d).loc main_v0
abbrev bLoc (d : Dev nD) : Loc nD τ sig := (SparseCore.T d).loc main_arg2
abbrev wLoc (d : Dev nD) : Loc nD τ sig := (SparseCore.T d).loc main_v1_0
abbrev iLoc (d : Dev nD) : Loc nD τ sig := (SparseCore.T d).loc main_v1_1

/-- The first of a task's rows. -/
def base (i : grid1.Coords) : ℕ := 512 * (i 1).val + 256 * (i 0).val

theorem base_le (i : grid1.Coords) : base i + 256 ≤ 8192 := by
  have h0 : (i 0).val < 2 := (i 0).isLt
  have h1 : (i 1).val < 16 := (i 1).isLt
  unfold base; omega

variable [FloatOps F]

/-- The weights and the expert numbers of every row, from the probabilities and the bias. -/
def WO (p : S8192x64.Idx → F .f32) (b : S64.Idx → F .f32) : S8192x16.Idx → F .f32 :=
  fun x => weights (fun c => p (ix2 (x 0) c)) (fun c => b (ix1 c)) (ix1 (x 1))
def IO (p : S8192x64.Idx → F .f32) (b : S64.Idx → F .f32) : S8192x16.Idx → BitVec 32 :=
  fun x => chosen (fun c => p (ix2 (x 0) c)) (fun c => b (ix1 c)) (ix1 (x 1))

/-- The read share a task has of the probabilities and of the bias. -/
def q (i : grid1.Coords) : PosShare TreeShare := shareTokN fullShare (2 * (i 1).val + (i 0).val)

variable (p : (d : Dev nD) → S8192x64.Idx → F .f32) (b : (d : Dev nD) → S64.Idx → F .f32)

/-- What a task is handed: a share of the probabilities and of the bias, and its rows of the results; -/
def goP (d : Dev nD) (i : grid1.Coords) : sProp 𝕄 :=
  iprop((pLoc d ↦{q i} p d) ∗ (bLoc d ↦{q i} b d) ∗ (∃ f : S8192x16.Idx → F .f32, wLoc d ↦[(outW i).view.set]{fullShare} f)
    ∗ ∃ f : S8192x16.Idx → BitVec 32, iLoc d ↦[(outI i).view.set]{fullShare} f)

/-- and what it brings back: its rows of the results computed. -/
def tdP (d : Dev nD) (i : grid1.Coords) : sProp 𝕄 :=
  iprop((pLoc d ↦{q i} p d) ∗ (bLoc d ↦{q i} b d) ∗ (wLoc d ↦[(outW i).view.set]{fullShare} WO (p d) (b d))
    ∗ iLoc d ↦[(outI i).view.set]{fullShare} IO (p d) (b d))

instance goP_storable (d : Dev nD) (i : grid1.Coords) : BI.Storable (upEmb : UEmb _ 𝕄) (goP p b d i) := by unfold goP; infer_instance
instance tdP_storable (d : Dev nD) (i : grid1.Coords) : BI.Storable (upEmb : UEmb _ 𝕄) (tdP p b d i) := by unfold tdP; infer_instance

/-- A task's coordinates from its core and its subcore. -/
def co (c : Fin (grid1.bound 0)) (s : Fin (grid1.bound 1)) : grid1.Coords :=
  fun | 0 => c | 1 => s | ⟨_ + 2, h⟩ => absurd h (Nat.not_lt.2 (Nat.le_add_left _ _))

/-- A core is handed its tasks' holdings, and brings them back. -/
def P : (K (F := F)).Pay (nD := nD) (Val := Elt F) (Name := ℕ) (U := UU) where
  st := fun k d c => match k with | 0 => bigSep Finset.univ fun s : Fin (grid1.bound 1) => goP p b d (co c s)
  dn := fun k d c => match k with | 0 => bigSep Finset.univ fun s : Fin (grid1.bound 1) => tdP p b d (co c s)
  go := fun k d c s => match k with | 0 => goP p b d (co c s)
  td := fun k d c s => match k with | 0 => tdP p b d (co c s)
  x := fun _ _ => iprop(emp)

instance P_storable : (P (F := F) p b).IsStorable where
  st k d c := match k with
    | 0 => (inferInstance : BI.Storable (upEmb : UEmb _ 𝕄) (bigSep Finset.univ fun s : Fin (grid1.bound 1) => goP p b d (co c s)))
  dn k d c := match k with
    | 0 => (inferInstance : BI.Storable (upEmb : UEmb _ 𝕄) (bigSep Finset.univ fun s : Fin (grid1.bound 1) => tdP p b d (co c s)))
  go k d c s := match k with | 0 => (inferInstance : BI.Storable (upEmb : UEmb _ 𝕄) (goP p b d (co c s)))
  td k d c s := match k with | 0 => (inferInstance : BI.Storable (upEmb : UEmb _ 𝕄) (tdP p b d (co c s)))

end Cert.KernelIdeal.Launch

end
-- ==== Proof.Tile.lean ====
/- The SparseCore task run once, at any core and subcore: handed a share of the probabilities and of the bias, it leaves in
   its rows of the two results the weights and the expert numbers of its rows of probabilities. -/
module

public import proofs.«01_k».proof.Proof.Setup

@[expose] public section

noncomputable section

namespace Cert.KernelIdeal.Launch

open Cert.KernelIdeal Cert.KernelIdeal.Gen Cert.KernelIdeal.Row Cert.InFlight
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## What the transfers leave -/

/-- A task's rows of the probabilities. -/
def rowsP (i : grid1.Coords) (p : S8192x64.Idx → F .f32) : S256x64.Idx → F .f32 :=
  fun x => p (ix2 (⟨base i + (x 0).val, lt_of_lt_of_le (Nat.add_lt_add_left (show (x 0).val < 256 from (x 0).isLt) _) (base_le i)⟩ : Fin 8192) (x 1))

theorem fetched1 (i : grid1.Coords) (p : S8192x64.Idx → F .f32) (f : S256x64.Idx → F .f32) :
    ∀ x ∈ (dst1 : Memref sig .scVector .vmem S128x64 .f32).view.set,
      (dst1 : Memref sig .scVector .vmem S128x64 .f32).view.write (Elt F) f (ReadAs.same.apply ((src1 i).view.read (Elt F) p)) Finset.univ x = rowsP i p x := by
  intro x hx
  obtain ⟨y, -, rfl⟩ := Finset.mem_map.1 hx
  refine (View.write_emb_of_mem _ _ (Finset.mem_univ y)).trans ?_
  show p ((src1 i).view.emb y) = p _
  congr 1
  funext a
  apply Fin.ext
  show (k1_off1 i) a + 1 * (y a).val = _
  rw [k1_off1_eq]
  fin_cases a
  · show 512 * (i 1).val + 256 * (i 0).val + 1 * (y 0).val = 512 * (i 1).val + 256 * (i 0).val + (0 + 1 * (y 0).val); omega
  · show 0 + 1 * (y 1).val = 0 + 1 * (y 1).val; rfl

theorem fetched2 (i : grid1.Coords) (p : S8192x64.Idx → F .f32) (f : S256x64.Idx → F .f32) :
    ∀ x ∈ (dst2 : Memref sig .scVector .vmem S128x64 .f32).view.set,
      (dst2 : Memref sig .scVector .vmem S128x64 .f32).view.write (Elt F) f (ReadAs.same.apply ((src2 i).view.read (Elt F) p)) Finset.univ x = rowsP i p x := by
  intro x hx
  obtain ⟨y, -, rfl⟩ := Finset.mem_map.1 hx
  refine (View.write_emb_of_mem _ _ (Finset.mem_univ y)).trans ?_
  show p ((src2 i).view.emb y) = p _
  congr 1
  funext a
  apply Fin.ext
  show (k1_off2 i) a + 1 * (y a).val = _
  rw [k1_off2_eq]
  fin_cases a
  · show 512 * (i 1).val + 256 * (i 0).val + 128 + 1 * (y 0).val = 512 * (i 1).val + 256 * (i 0).val + (128 + 1 * (y 0).val); omega
  · show 0 + 1 * (y 1).val = 0 + 1 * (y 1).val; rfl

theorem mem_dst1 (x : S256x64.Idx) : x ∈ (dst1 : Memref sig .scVector .vmem S128x64 .f32).view.set ↔ (x 0).val < 128 := by
  rw [show (dst1 : Memref sig .scVector .vmem S128x64 .f32).view.set = rect1.set from View.set_slice_whole _ _, Rect.mem_set_unit]
  have h1 : (x 1).val < 64 := (x 1).isLt
  constructor
  · intro h; exact (h 0).2
  · intro h a
    fin_cases a
    · exact ⟨Nat.zero_le _, by show (x 0).val < 0 + 128; omega⟩
    · exact ⟨Nat.zero_le _, by show (x 1).val < 0 + 64; omega⟩

theorem mem_dst2 (x : S256x64.Idx) : x ∈ (dst2 : Memref sig .scVector .vmem S128x64 .f32).view.set ↔ 128 ≤ (x 0).val := by
  rw [show (dst2 : Memref sig .scVector .vmem S128x64 .f32).view.set = rect2.set from View.set_slice_whole _ _, Rect.mem_set_unit]
  have h0 : (x 0).val < 256 := (x 0).isLt
  have h1 : (x 1).val < 64 := (x 1).isLt
  constructor
  · intro h; exact (h 0).1
  · intro h a
    fin_cases a
    · exact ⟨h, by show (x 0).val < 128 + 128; omega⟩
    · exact ⟨Nat.zero_le _, by show (x 1).val < 0 + 64; omega⟩

theorem off_half (x : S256x64.Idx) (h : x ∈ Finset.univ \ (dst1 : Memref sig .scVector .vmem S128x64 .f32).view.set) :
    x ∈ (dst2 : Memref sig .scVector .vmem S128x64 .f32).view.set := by
  rw [mem_dst2]
  have := (Finset.mem_sdiff.1 h).2
  rw [mem_dst1] at this
  omega

theorem half_off : (dst2 : Memref sig .scVector .vmem S128x64 .f32).view.set ⊆ Finset.univ \ (dst1 : Memref sig .scVector .vmem S128x64 .f32).view.set := by
  intro x hx
  rw [mem_dst2] at hx
  refine Finset.mem_sdiff.2 ⟨Finset.mem_univ _, fun h => ?_⟩
  rw [mem_dst1] at h
  omega

/-- The bias fetched. -/
theorem fetchedB (b : S64.Idx → F .f32) (f : S64.Idx → F .f32) :
    ∀ x ∈ (Finset.univ : Finset S64.Idx),
      (sB : Memref sig .scVector .vmem S64 .f32).view.write (Elt F) f (ReadAs.same.apply ((hB : Memref sig .scVector .hbm S64 .f32).view.read (Elt F) b)) Finset.univ x = b x := by
  intro x _
  exact View.write_emb_of_mem (v := (sB : Memref sig .scVector .vmem S64 .f32).view) _ _ (Finset.mem_univ (x : S64.Idx))

/-- A segment of the bias loaded. -/
theorem loadedB (b : S64.Idx → F .f32) (o : ℕ) (ho : o + 16 ≤ 64) (inb : ∀ a, (![o] : Fin 1 → ℕ) a + S16.size a ≤ S64.size a) :
    (sB : Memref sig .scVector .vmem S64 .f32).view.readAt (Elt F) (Rect.unit (s := S64) ![o] S16.size inb).toLoadRect b
      = segOf (fun c => b (ix1 c)) o ho := by
  funext l
  show b _ = b _
  congr 1
  funext a
  apply Fin.ext
  fin_cases a
  show o + 1 * (l 0).val = o + (l 0).val
  omega

/-- The rows `< n` of the two results are computed. -/
def Done (f : S256x64.Idx → F .f32) (b : S64.Idx → F .f32) (n : ℕ) (g : S256x16.Idx → F .f32) (g' : S256x16.Idx → BitVec 32) : Prop :=
  ∀ (r : Fin 256) (l : Fin 16), r.val < n → g (ix2 r l) = weights (fun c => f (ix2 r c)) (fun c => b (ix1 c)) (ix1 l)
    ∧ g' (ix2 r l) = chosen (fun c => f (ix2 r c)) (fun c => b (ix1 c)) (ix1 l)

theorem storedW (i : grid1.Coords) (p : S8192x64.Idx → F .f32) (b : S64.Idx → F .f32) {g : S256x16.Idx → F .f32} {g' : S256x16.Idx → BitVec 32}
    (h : Done (rowsP i p) b 256 g g') (f : S8192x16.Idx → F .f32) :
    ∀ x ∈ (outW i).view.set, (outW i).view.write (Elt F) f (ReadAs.same.apply ((sW : Memref sig .scVector .vmem S256x16 .f32).view.read (Elt F) g)) Finset.univ x = WO p b x := by
  intro x hx
  obtain ⟨y, -, rfl⟩ := Finset.mem_map.1 hx
  refine (View.write_emb_of_mem _ _ (Finset.mem_univ y)).trans ?_
  have hy := (h (y 0) (y 1) (y 0).isLt).1
  have e : (ix2 (y 0) (y 1) : S256x16.Idx) = y := by funext a; fin_cases a <;> rfl
  show g y = _
  rw [← e, hy]
  have e0 : ((outW i).view.emb y) 0 = (⟨base i + (y 0).val, lt_of_lt_of_le (Nat.add_lt_add_left (show (y 0).val < 256 from (y 0).isLt) _) (base_le i)⟩ : Fin 8192) := by
    apply Fin.ext
    show (k1_off13 i) 0 + 1 * (y 0).val = base i + (y 0).val
    rw [k1_off13_eq]; show 512 * (i 1).val + 256 * (i 0).val + 1 * (y 0).val = 512 * (i 1).val + 256 * (i 0).val + (y 0).val; omega
  have e1 : ((outW i).view.emb y) 1 = y 1 := by
    apply Fin.ext
    show (k1_off13 i) 1 + 1 * (y 1).val = (y 1).val
    rw [k1_off13_eq]; show 0 + 1 * (y 1).val = (y 1).val; omega
  unfold WO
  rw [e, e0, e1]
  rfl

theorem storedI (i : grid1.Coords) (p : S8192x64.Idx → F .f32) (b : S64.Idx → F .f32) {g : S256x16.Idx → F .f32} {g' : S256x16.Idx → BitVec 32}
    (h : Done (rowsP i p) b 256 g g') (f : S8192x16.Idx → BitVec 32) :
    ∀ x ∈ (outI i).view.set, (outI i).view.write (Elt F) f (ReadAs.same.apply ((sI : Memref sig .scVector .vmem S256x16 .i32).view.read (Elt F) g')) Finset.univ x = IO p b x := by
  intro x hx
  obtain ⟨y, -, rfl⟩ := Finset.mem_map.1 hx
  refine (View.write_emb_of_mem _ _ (Finset.mem_univ y)).trans ?_
  have hy := (h (y 0) (y 1) (y 0).isLt).2
  have e : (ix2 (y 0) (y 1) : S256x16.Idx) = y := by funext a; fin_cases a <;> rfl
  show g' y = _
  rw [← e, hy]
  have e0 : ((outI i).view.emb y) 0 = (⟨base i + (y 0).val, lt_of_lt_of_le (Nat.add_lt_add_left (show (y 0).val < 256 from (y 0).isLt) _) (base_le i)⟩ : Fin 8192) := by
    apply Fin.ext
    show (k1_off13 i) 0 + 1 * (y 0).val = base i + (y 0).val
    rw [k1_off13_eq]; show 512 * (i 1).val + 256 * (i 0).val + 1 * (y 0).val = 512 * (i 1).val + 256 * (i 0).val + (y 0).val; omega
  have e1 : ((outI i).view.emb y) 1 = y 1 := by
    apply Fin.ext
    show (k1_off13 i) 1 + 1 * (y 1).val = (y 1).val
    rw [k1_off13_eq]; show 0 + 1 * (y 1).val = (y 1).val; omega
  unfold IO
  rw [e, e0, e1]
  rfl

/-! ## The two loops -/

theorem row1_val (t : Fin k1_t1_loop.trips) : t.val < 128 ∧ (row1 t).toNat = t.val := by
  revert t; decide +kernel

theorem row2_val (t : Fin k1_t2_loop.trips) : t.val < 128 ∧ (row2 t).toNat = t.val + 128 := by
  revert t; decide +kernel

/-- Storing row `R`'s results computes the rows below `R + 1`. -/
theorem Done.step {f : S256x64.Idx → F .f32} {b : S64.Idx → F .f32} {R : ℕ} {hR : R < 256} {g w : S256x16.Idx → F .f32} {g' w' : S256x16.Idx → BitVec 32}
    (h : Done f b R g g')
    (hw : ∀ (r : Fin 256) (l : Fin 16),
      w (ix2 r l) = (if r.val = R then weights (fun c => f (ix2 (⟨R, hR⟩ : Fin 256) c)) (fun c => b (ix1 c)) (ix1 l) else g (ix2 r l))
      ∧ w' (ix2 r l) = (if r.val = R then chosen (fun c => f (ix2 (⟨R, hR⟩ : Fin 256) c)) (fun c => b (ix1 c)) (ix1 l) else g' (ix2 r l))) :
    Done f b (R + 1) w w' := by
  intro r l hr
  obtain ⟨h1, h2⟩ := hw r l
  by_cases e : r.val = R
  · rw [if_pos e] at h1 h2
    rw [show r = (⟨R, hR⟩ : Fin 256) from Fin.ext e]
    rw [show r = (⟨R, hR⟩ : Fin 256) from Fin.ext e] at h1 h2
    exact ⟨h1, h2⟩
  · rw [if_neg e] at h1 h2
    rw [h1, h2]
    exact h r l (by omega)

section Loops

variable (d : Dev nD) (i : grid1.Coords)

/-- What a loop keeps: the probabilities readable, the rows below `n` computed. -/
def kept (Pr : sProp 𝕄) (f : S256x64.Idx → F .f32) (b : S64.Idx → F .f32) (n : ℕ) : sProp 𝕄 :=
  iprop(Pr ∗ ∃ (g : S256x16.Idx → F .f32) (g' : S256x16.Idx → BitVec 32), ⌜Done f b n g g'⌝
    ∗ ((sW : Memref sig .scVector .vmem S256x16 .f32).view.loc (thr d i) ↦{fullShare} g)
    ∗ ((sI : Memref sig .scVector .vmem S256x16 .i32).view.loc (thr d i) ↦{fullShare} g'))

abbrev seg (b : S64.Idx → F .f32) (o : ℕ) (ho : o + 16 ≤ 64) : Vec F S16 .f32 := segOf (fun c => b (ix1 c)) o ho

variable {A : Finset S256x64.Idx} {f : S256x64.Idx → F .f32} {Pr : sProp (MT nD τ sig (HIx 1) (Elt F) ℕ UU ℕ)}
  (hP : Readable (Λ := Λ₀) (thr d i) 𝒱₀ (sP : Memref sig .scVector .vmem S256x64 .f32) A f Pr) (b : S64.Idx → F .f32)

include hP in
theorem wp_trip1 (hA : ∀ x : S256x64.Idx, (x 0).val < 128 → x ∈ A) (t : Fin k1_t1_loop.trips) (u : Unit) :
    kept d i Pr f b t.val ⊢ wp frame (wpE (defs₀ (F := F)) 𝒱₀ (thr d i) none) Set.univ
      (trip1 i (seg b 0 (by decide)) (seg b 16 (by decide)) (seg b 32 (by decide)) (seg b 48 (by decide)) t u)
      fun _ => kept d i Pr f b (t.val + 1) := by
  obtain ⟨ht, hr⟩ := row1_val t
  unfold kept trip1
  iintro ⟨HP, %g, %g', %hg, HW, HI⟩
  iapply (wp_row d i 𝒱₀ none hP t.val (by omega) (fun c => hA _ ht) (k1_off3_eq t) (k1_off4_eq t) (k1_off5_eq t) (k1_off6_eq t) (k1_off7_eq t)
    _ _ _ _ _ (row1 t) hr (fun c => b (ix1 c)) g g') $$ [HP HW HI]
  · isplitl [HP]; · iexact HP
    isplitl [HW] <;> iassumption
  iintro %w %w' %hw HP HW HI
  isplitl [HP]; · iexact HP
  iexists w; iexists w'
  isplitr; · ipureintro; exact hg.step hw
  isplitl [HW] <;> iassumption

include hP in
theorem wp_trip2 (hA : ∀ x : S256x64.Idx, x ∈ A) (t : Fin k1_t2_loop.trips) (u : Unit) :
    kept d i Pr f b (t.val + 128) ⊢ wp frame (wpE (defs₀ (F := F)) 𝒱₀ (thr d i) none) Set.univ
      (trip2 i (seg b 0 (by decide)) (seg b 16 (by decide)) (seg b 32 (by decide)) (seg b 48 (by decide)) t u)
      fun _ => kept d i Pr f b (t.val + 1 + 128) := by
  obtain ⟨ht, hr⟩ := row2_val t
  unfold kept trip2
  iintro ⟨HP, %g, %g', %hg, HW, HI⟩
  iapply (wp_row d i 𝒱₀ none hP (t.val + 128) (by omega) (fun c => hA _) (k1_off8_eq t) (k1_off9_eq t) (k1_off10_eq t) (k1_off11_eq t) (k1_off12_eq t)
    _ _ _ _ _ (row2 t) hr (fun c => b (ix1 c)) g g') $$ [HP HW HI]
  · isplitl [HP]; · iexact HP
    isplitl [HW] <;> iassumption
  iintro %w %w' %hw HP HW HI
  isplitl [HP]; · iexact HP
  iexists w; iexists w'
  isplitr
  · ipureintro
    rw [show t.val + 1 + 128 = t.val + 128 + 1 by omega]
    exact hg.step hw
  isplitl [HW] <;> iassumption

end Loops

end Cert.KernelIdeal.Launch

end
-- ==== Proof.Body.lean ====
/- The SparseCore task from end to end. -/
module

public import proofs.«01_k».proof.Proof.Tile

@[expose] public section

noncomputable section

namespace Cert.KernelIdeal.Launch

open Cert.KernelIdeal Cert.KernelIdeal.Gen Cert.KernelIdeal.Row Cert.InFlight
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

variable (d : Dev nD) (i : grid1.Coords)

/-- A task's five transfer cells. -/
abbrev cell (t : Thread nD τ) (s : DmaSems sig S_) : GSem nD τ sig := (t, .dma s.sem)

theorem cell_mem (s : DmaSems sig S_) (h : (SemLoc.dma s.sem : SemLoc sig).isScoped .scVector = true) : cell (thr d i) s ∈ ownCells (thr d i) :=
  mem_ownCells.mpr ⟨rfl, h⟩

theorem cell_ne {t : Thread nD τ} {s s' : DmaSems sig S_} (h : s.sem ≠ s'.sem) : cell t s ≠ cell t s' := by
  intro e
  exact h (SemLoc.dma.inj (Prod.mk.inj e).2)

/-- The rest of a task's cells. -/
def restCells : Finset (GSem nD τ sig) :=
  (((((ownCells (thr d i)).erase (cell (thr d i) cc1_scratch4)).erase (cell (thr d i) cc1_scratch5)).erase (cell (thr d i) cc1_scoped0)).erase
    (cell (thr d i) cc1_scoped1)).erase (cell (thr d i) cc1_scoped2)

theorem ownSems0_task :
    (ownSems0 (thr d i) : sProp 𝕄)
      = iprop(semVal (cell (thr d i) cc1_scratch4) 0 ∗ semVal (cell (thr d i) cc1_scratch5) 0 ∗ semVal (cell (thr d i) cc1_scoped0) 0
          ∗ semVal (cell (thr d i) cc1_scoped1) 0 ∗ semVal (cell (thr d i) cc1_scoped2) 0 ∗ bigSep (restCells d i) fun g => semVal g 0) := by
  unfold SparseCore.Cfg.ownSems0 restCells
  have m4 := cell_mem d i cc1_scratch4 (by decide)
  have m5 := cell_mem d i cc1_scratch5 (by decide)
  have m0 := cell_mem d i cc1_scoped0 (by decide)
  have m1 := cell_mem d i cc1_scoped1 (by decide)
  have m2 := cell_mem d i cc1_scoped2 (by decide)
  have ne : ∀ {s s' : DmaSems sig S_}, s.sem ≠ s'.sem → cell (thr d i) s ≠ cell (thr d i) s' := fun h => cell_ne h
  rw [SparseCore.bigSep_erase' m4,
    SparseCore.bigSep_erase' (Finset.mem_erase.mpr ⟨ne (by decide), m5⟩),
    SparseCore.bigSep_erase' (Finset.mem_erase.mpr ⟨ne (by decide), Finset.mem_erase.mpr ⟨ne (by decide), m0⟩⟩),
    SparseCore.bigSep_erase' (Finset.mem_erase.mpr ⟨ne (by decide), Finset.mem_erase.mpr ⟨ne (by decide), Finset.mem_erase.mpr ⟨ne (by decide), m1⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), m2⟩⟩⟩⟩)]

/-- A scratch's buffer on the task's processor. -/
abbrev buf (r : Ref sig .scVector) : DevRef τ sig := (Proc.scVector ((i 0).castLE hcore1) ((i 1).castLE hsub1)).devRef r

theorem buf_ne {r r' : Ref sig .scVector} (h : r ≠ r') : buf i r ≠ buf i r' := fun e => h (Proc.devRef_injective _ e)

/-- The rest of a task's buffers. -/
def restBufs : Finset (DevRef τ sig) :=
  ((((ownRefs (τ := τ) (.scVector ((i 0).castLE hcore1) ((i 1).castLE hsub1))).erase (buf i cc1_scratch0)).erase (buf i cc1_scratch1)).erase (buf i cc1_scratch2)).erase
    (buf i cc1_scratch3)

/-- A task's scratches are among its buffers. -/
theorem ownBufs_task :
    (ownBufs (thr d i) : sProp 𝕄)
      = iprop((∃ f, (thr d i).loc cc1_scratch0 ↦{fullShare} f) ∗ (∃ f, (thr d i).loc cc1_scratch1 ↦{fullShare} f)
          ∗ (∃ f, (thr d i).loc cc1_scratch2 ↦{fullShare} f) ∗ (∃ f, (thr d i).loc cc1_scratch3 ↦{fullShare} f)
          ∗ bigSep (restBufs i) fun b => iprop(∃ f, ((d, b) : Loc nD τ sig) ↦{fullShare} f)) := by
  unfold SparseCore.Cfg.ownBufs restBufs
  have m0 : buf i cc1_scratch0 ∈ ownRefs (τ := τ) (.scVector ((i 0).castLE hcore1) ((i 1).castLE hsub1)) := SparseCore.Cfg.mem_ownRefs_of_owner rfl
  have m1 : buf i cc1_scratch1 ∈ ownRefs (τ := τ) (.scVector ((i 0).castLE hcore1) ((i 1).castLE hsub1)) := SparseCore.Cfg.mem_ownRefs_of_owner rfl
  have m2 : buf i cc1_scratch2 ∈ ownRefs (τ := τ) (.scVector ((i 0).castLE hcore1) ((i 1).castLE hsub1)) := SparseCore.Cfg.mem_ownRefs_of_owner rfl
  have m3 : buf i cc1_scratch3 ∈ ownRefs (τ := τ) (.scVector ((i 0).castLE hcore1) ((i 1).castLE hsub1)) := SparseCore.Cfg.mem_ownRefs_of_owner rfl
  refine (SparseCore.bigSep_erase' m0).trans ?_
  rw [SparseCore.bigSep_erase' (Finset.mem_erase.mpr ⟨buf_ne i (by decide), m1⟩),
    SparseCore.bigSep_erase' (Finset.mem_erase.mpr ⟨buf_ne i (by decide), Finset.mem_erase.mpr ⟨buf_ne i (by decide), m2⟩⟩),
    SparseCore.bigSep_erase' (Finset.mem_erase.mpr ⟨buf_ne i (by decide), Finset.mem_erase.mpr ⟨buf_ne i (by decide), Finset.mem_erase.mpr ⟨buf_ne i (by decide), m3⟩⟩⟩)]

/-- A share of the whole lent over a slice's elements and the rest kept. -/
theorem lend {ℓ : Loc nD τ sig} (I : Finset (Idx ℓ)) (s : PosShare TreeShare) (f : Buf (Elt F) ℓ) :
    (ℓ ↦{s} f : sProp 𝕄) ⊢ iprop((ℓ ↦[I]{s.left} f) ∗ (ℓ ↦[Finset.univ \ I]{s.left} f) ∗ ℓ ↦{s.right} f) := by
  iintro H
  ihave H := (pointsTo_share (PosShare.mem_left_op_right s)).1 $$ H
  icases H with ⟨Hl, Hr⟩
  ihave H := (pointsTo_split_subset (Finset.subset_univ I)).1 $$ Hl
  icases H with ⟨Hi, Hu⟩
  isplitl [Hi]; · iexact Hi
  isplitl [Hu] <;> iassumption

/-- What was lent given back. -/
theorem unlend {ℓ : Loc nD τ sig} (I : Finset (Idx ℓ)) (s : PosShare TreeShare) (f : Buf (Elt F) ℓ) :
    iprop((ℓ ↦[I]{s.left} f) ∗ (ℓ ↦[Finset.univ \ I]{s.left} f) ∗ ℓ ↦{s.right} f) ⊢ (ℓ ↦{s} f : sProp 𝕄) := by
  iintro ⟨Hi, Hu, Hr⟩
  iapply (pointsTo_share (PosShare.mem_left_op_right s)).2
  isplitl [Hi Hu]
  · iapply (pointsTo_split_subset (Finset.subset_univ I)).2
    isplitl [Hi] <;> iassumption
  · iexact Hr

/-! ## The task -/

/-- The elements of the probabilities' scratch the first fetch lands in. -/
abbrev half : Finset S256x64.Idx := (dst1 : Memref sig .scVector .vmem S128x64 .f32).view.set

/-- The two results copied out. -/
theorem wp_out (Pr : sProp (MT nD τ sig (HIx 1) (Elt F) ℕ UU ℕ)) (p : S8192x64.Idx → F .f32) (b : S64.Idx → F .f32) (O : CellTallies nD τ sig (HIx 1)) {W₀ W : Waits sig (HIx 1)}
    (hW : ∀ p ∈ W, p ∈ W₀ ∨ p.2 = none) :
    iprop(MayWaits (thr d i) none O ∗ kept d i Pr (rowsP i p) b 256
        ∗ (∃ f : S8192x16.Idx → F .f32, wLoc d ↦[(outW i).view.set]{fullShare} f) ∗ (∃ f, iLoc d ↦[(outI i).view.set]{fullShare} f)
        ∗ semVal (cell (thr d i) cc1_scoped1) 0 ∗ semVal (cell (thr d i) cc1_scoped2) 0 ∗ owes (thr d i) O W)
      ⊢ wp frame (wpE (defs₀ (F := F)) 𝒱₀ (thr d i) none) Set.univ
          (.op (.enqueueDma sW (.here (outW i)) (.dma cc1_scoped1.sem) (Memref.isWhole_whole _).wordExact (View.wordExact_bits rfl) ⟨Or.inl rfl, trivial⟩) fun _ =>
          .op (.waitDma2 cc1_scoped1.sem sW (outW i) (Memref.isWhole_whole _).wordExact (View.wordExact_bits rfl)) fun _ =>
          .op (.enqueueDma sI (.here (outI i)) (.dma cc1_scoped2.sem) (Memref.isWhole_whole _).wordExact (View.wordExact_bits rfl) ⟨Or.inl rfl, trivial⟩) fun _ =>
          .op (.waitDma2 cc1_scoped2.sem sI (outI i) (Memref.isWhole_whole _).wordExact (View.wordExact_bits rfl)) fun _ =>
          .ret PUnit.unit)
          fun _ => iprop(Pr ∗ (wLoc d ↦[(outW i).view.set]{fullShare} WO p b) ∗ (iLoc d ↦[(outI i).view.set]{fullShare} IO p b)
            ∗ (∃ f, (thr d i).loc cc1_scratch2 ↦{fullShare} f) ∗ (∃ f, (thr d i).loc cc1_scratch3 ↦{fullShare} f)
            ∗ semVal (cell (thr d i) cc1_scoped1) 0 ∗ semVal (cell (thr d i) cc1_scoped2) 0
            ∗ ∃ W', ⌜∀ p ∈ W', p ∈ W₀ ∨ p.2 = none⌝ ∗ owes (thr d i) O W') := by
  unfold kept
  iintro ⟨#Hmw, ⟨HPr, %g, %g', %hg, HW, HI⟩, ⟨%fw, Hw⟩, ⟨%fi, Hi⟩, Hs1, Hs2, HO⟩
  ihave HW := (Entails.of_eq (congrArg (fun S => (sW : Memref sig .scVector .vmem S256x16 .f32).view.loc (thr d i) ↦[S]{fullShare} g)
    (View.set_whole (cc1_scratch2 : Ref sig .scVector)).symm)) $$ HW
  iapply (wp_dmaLocal EC 𝒱₀ (thr d i) none (src := sW) (dst := outW i) (sm := .dma cc1_scoped1.sem) (q := fullShare) (fs := g) (fd := fw) none
    (outW i).view.dmaCredit rfl (View.dmaCredit_pos _ (by decide)) (Finset.Subset.refl _)) $$ [HW Hw Hs1]
  · isplitl [HW]; · iexact HW
    isplitl [Hw]; · iexact Hw
    iexact Hs1
  iintro Hf
  iapply (wp_waitLocalO EC 𝒱₀ (thr d i) none (sem := cc1_scoped1.sem) (srcw := sW) (dstw := outW i) none rfl (O := O) (W := W)) $$ [Hf HO]
  · isplitl [Hf]; · iexact Hf
    isplitl [HO]; · iexact HO
    iapply (MayWaits.elim (SemLoc.dma cc1_scoped1.sem)); iexact Hmw
  iintro ⟨⟨Hw, HW⟩, Hs1, HO⟩
  ihave Hw := (Entails.of_eq (pointsTo_congr (storedW i p b hg fw))) $$ Hw
  ihave HI := (Entails.of_eq (congrArg (fun S => (sI : Memref sig .scVector .vmem S256x16 .i32).view.loc (thr d i) ↦[S]{fullShare} g')
    (View.set_whole (cc1_scratch3 : Ref sig .scVector)).symm)) $$ HI
  iapply (wp_dmaLocal EC 𝒱₀ (thr d i) none (src := sI) (dst := outI i) (sm := .dma cc1_scoped2.sem) (q := fullShare) (fs := g') (fd := fi) none
    (outI i).view.dmaCredit rfl (View.dmaCredit_pos _ (by decide)) (Finset.Subset.refl _)) $$ [HI Hi Hs2]
  · isplitl [HI]; · iexact HI
    isplitl [Hi]; · iexact Hi
    iexact Hs2
  iintro Hf
  iapply (wp_waitLocalO EC 𝒱₀ (thr d i) none (sem := cc1_scoped2.sem) (srcw := sI) (dstw := outI i) none rfl (O := O)
    (W := insert (SemLoc.dma cc1_scoped1.sem, none) W)) $$ [Hf HO]
  · isplitl [Hf]; · iexact Hf
    isplitl [HO]; · iexact HO
    iapply (MayWaits.elim (SemLoc.dma cc1_scoped2.sem)); iexact Hmw
  iintro ⟨⟨Hi, HI⟩, Hs2, HO⟩
  ihave Hi := (Entails.of_eq (pointsTo_congr (storedI i p b hg fi))) $$ Hi
  ihave HW := (Entails.of_eq (congrArg (fun S => (sW : Memref sig .scVector .vmem S256x16 .f32).view.loc (thr d i) ↦[S]{fullShare} g)
    (View.set_whole (cc1_scratch2 : Ref sig .scVector)))) $$ HW
  ihave HI := (Entails.of_eq (congrArg (fun S => (sI : Memref sig .scVector .vmem S256x16 .i32).view.loc (thr d i) ↦[S]{fullShare} g')
    (View.set_whole (cc1_scratch3 : Ref sig .scVector)))) $$ HI
  rw [wp_ret]; imodintro
  isplitl [HPr]; · iexact HPr
  isplitl [Hw]; · iexact Hw
  isplitl [Hi]; · iexact Hi
  isplitl [HW]; · iexists g; iexact HW
  isplitl [HI]; · iexists g'; iexact HI
  isplitl [Hs1]; · iexact Hs1
  isplitl [Hs2]; · iexact Hs2
  iexists (insert (SemLoc.dma cc1_scoped2.sem, none) (insert (SemLoc.dma cc1_scoped1.sem, none) W))
  isplitr
  · ipureintro
    intro x hx
    rcases Finset.mem_insert.mp hx with rfl | hx
    · exact .inr rfl
    rcases Finset.mem_insert.mp hx with rfl | hx
    · exact .inr rfl
    · exact hW x hx
  · iexact HO

theorem trips1 : k1_t1_loop.trips = 128 := by decide +kernel
theorem trips2 : k1_t2_loop.trips = 128 := by decide +kernel

section Loop

variable {A : Finset S256x64.Idx} {f : S256x64.Idx → F .f32} {Pr : sProp (MT nD τ sig (HIx 1) (Elt F) ℕ UU ℕ)}
  (hP : Readable (Λ := Λ₀) (thr d i) 𝒱₀ (sP : Memref sig .scVector .vmem S256x64 .f32) A f Pr) (b : S64.Idx → F .f32)

include hP in
/-- The first loop computes the first 128 rows. -/
theorem wp_loop1 (hA : ∀ x : S256x64.Idx, (x 0).val < 128 → x ∈ A)
    {kk : Unit → Prog (TpuEff nD τ sig (Elt F) Λ₀ (.scVector ((i 0).castLE hcore1) ((i 1).castLE hsub1))) PUnit} {Q : PUnit → sProp 𝕄} :
    kept d i Pr f b 0 ⊢ iprop((kept d i Pr f b 128 -∗ wp frame (wpE (defs₀ (F := F)) 𝒱₀ (thr d i) none) Set.univ (kk ()) Q)
      -∗ wp frame (wpE (defs₀ (F := F)) 𝒱₀ (thr d i) none) Set.univ
        (Scf.Loop.for k1_t1_loop k1_t1_ok ⟨⟩ (trip1 i (seg b 0 (by decide)) (seg b 16 (by decide)) (seg b 32 (by decide)) (seg b 48 (by decide))) >>= kk) Q) := by
  have h := Scf.wp_for_bind frame (wpE (defs₀ (F := F)) 𝒱₀ (thr d i) none) Set.univ _ _ _ k1_t1_ok ()
    (trip1 i (seg b 0 (by decide)) (seg b 16 (by decide)) (seg b 32 (by decide)) (seg b 48 (by decide)))
    (fun n _ => kept d i Pr f b n) (wp_trip1 d i hP b hA) (kk := kk) (Q := Q)
  rw [show Scf.trips k1_t1_loop.lb k1_t1_loop.ub k1_t1_loop.st = 128 from trips1] at h
  iintro H Hk
  iapply h $$ H
  iintro %_ H
  iapply Hk $$ H

include hP in
/-- The second loop computes the other 128. -/
theorem wp_loop2 (hA : ∀ x : S256x64.Idx, x ∈ A)
    {kk : Unit → Prog (TpuEff nD τ sig (Elt F) Λ₀ (.scVector ((i 0).castLE hcore1) ((i 1).castLE hsub1))) PUnit} {Q : PUnit → sProp 𝕄} :
    kept d i Pr f b 128 ⊢ iprop((kept d i Pr f b 256 -∗ wp frame (wpE (defs₀ (F := F)) 𝒱₀ (thr d i) none) Set.univ (kk ()) Q)
      -∗ wp frame (wpE (defs₀ (F := F)) 𝒱₀ (thr d i) none) Set.univ
        (Scf.Loop.for k1_t2_loop k1_t2_ok ⟨⟩ (trip2 i (seg b 0 (by decide)) (seg b 16 (by decide)) (seg b 32 (by decide)) (seg b 48 (by decide))) >>= kk) Q) := by
  have h := Scf.wp_for_bind frame (wpE (defs₀ (F := F)) 𝒱₀ (thr d i) none) Set.univ _ _ _ k1_t2_ok ()
    (trip2 i (seg b 0 (by decide)) (seg b 16 (by decide)) (seg b 32 (by decide)) (seg b 48 (by decide)))
    (fun n _ => kept d i Pr f b (n + 128)) (wp_trip2 d i hP b hA) (kk := kk) (Q := Q)
  rw [show Scf.trips k1_t2_loop.lb k1_t2_loop.ub k1_t2_loop.st = 128 from trips2, show 0 + 128 = 128 from rfl, show 128 + 128 = 256 from rfl] at h
  iintro H Hk
  iapply h $$ H
  iintro %_ H
  iapply Hk $$ H

end Loop

/-- From the bias on: the first half's rows computed while the second is still on its way, then the second's. -/
theorem wp_taskRest (Pr : sProp (MT nD τ sig (HIx 1) (Elt F) ℕ UU ℕ)) (p : S8192x64.Idx → F .f32) (b : S64.Idx → F .f32)
    (s₁ s₂ : PosShare TreeShare) (f : S256x64.Idx → F .f32) (γ δ ι : ℕ)
    (O : CellTallies nD τ sig (HIx 1)) {W₀ W : Waits sig (HIx 1)} (hW : ∀ p ∈ W, p ∈ W₀ ∨ p.2 = none) :
    iprop(MayWaits (thr d i) none O ∗ Pr
        ∗ Flight EC (thr d i) (.dma cc1_scratch4.sem) none (dst1 : Memref sig .scVector .vmem S128x64 .f32).view.dmaCredit
            iprop(((dst1 : Memref sig .scVector .vmem S128x64 .f32).view.loc (thr d i) ↦[half]{fullShare}
              (dst1 : Memref sig .scVector .vmem S128x64 .f32).view.write (Elt F) f (ReadAs.same.apply ((src1 i).view.read (Elt F) p)) Finset.univ)
              ∗ ((src1 i).view.loc (thr d i) ↦[(src1 i).view.set]{s₁} p))
        ∗ Flight EC (thr d i) (.dma cc1_scratch5.sem) none (dst2 : Memref sig .scVector .vmem S128x64 .f32).view.dmaCredit
            iprop(count EC γ (num (Finset.univ : Finset S128x64.Idx)) ∗ ((src2 i).view.loc (thr d i) ↦[(src2 i).view.set]{s₂} p))
        ∗ inv ι (streamBody EC (thr d i) (dst2 : Memref sig .scVector .vmem S128x64 .f32).view (Finset.univ \ half) f
            (ReadAs.same.apply ((src2 i).view.read (Elt F) p)) γ δ) ∗ tok EC δ
        ∗ (∃ g, (thr d i).loc cc1_scratch2 ↦{fullShare} g) ∗ (∃ g, (thr d i).loc cc1_scratch3 ↦{fullShare} g)
        ∗ (∃ f : S8192x16.Idx → F .f32, wLoc d ↦[(outW i).view.set]{fullShare} f) ∗ (∃ f, iLoc d ↦[(outI i).view.set]{fullShare} f)
        ∗ semVal (cell (thr d i) cc1_scoped1) 0 ∗ semVal (cell (thr d i) cc1_scoped2) 0 ∗ owes (thr d i) O W)
      ⊢ wp frame (wpE (defs₀ (F := F)) 𝒱₀ (thr d i) none) Set.univ
          (taskRest i (seg b 0 (by decide)) (seg b 16 (by decide)) (seg b 32 (by decide)) (seg b 48 (by decide)))
          fun _ => iprop((Pr ∗ ((src1 i).view.loc (thr d i) ↦[(src1 i).view.set]{s₁} p) ∗ ((src2 i).view.loc (thr d i) ↦[(src2 i).view.set]{s₂} p)
              ∗ semVal (cell (thr d i) cc1_scratch4) 0 ∗ semVal (cell (thr d i) cc1_scratch5) 0
              ∗ ((sP : Memref sig .scVector .vmem S256x64 .f32).view.loc (thr d i) ↦{fullShare} rowsP i p))
            ∗ (wLoc d ↦[(outW i).view.set]{fullShare} WO p b) ∗ (iLoc d ↦[(outI i).view.set]{fullShare} IO p b)
            ∗ (∃ f, (thr d i).loc cc1_scratch2 ↦{fullShare} f) ∗ (∃ f, (thr d i).loc cc1_scratch3 ↦{fullShare} f)
            ∗ semVal (cell (thr d i) cc1_scoped1) 0 ∗ semVal (cell (thr d i) cc1_scoped2) 0
            ∗ ∃ W', ⌜∀ p ∈ W', p ∈ W₀ ∨ p.2 = none⌝ ∗ owes (thr d i) O W') := by
  unfold taskRest
  iintro ⟨#Hmw, HPr, Hf1, Hf2, #Hinv, Hδ, ⟨%g, HW⟩, ⟨%g', HI⟩, Hw, Hi, Hs1, Hs2, HO⟩
  iapply (wp_waitLocalO EC 𝒱₀ (thr d i) none (sem := cc1_scratch4.sem) (srcw := src1 i) (dstw := dst1) none rfl (O := O) (W := W)) $$ [Hf1 HO]
  · isplitl [Hf1]; · iexact Hf1
    isplitl [HO]; · iexact HO
    iapply (MayWaits.elim (SemLoc.dma cc1_scratch4.sem)); iexact Hmw
  iintro ⟨⟨Hd1, Hsrc1⟩, Hs4, HO⟩
  ihave Hd1 := (Entails.of_eq (pointsTo_congr (fetched1 i p f))) $$ Hd1
  iapply (wp_loop1 d i (readable_inflight EC (thr d i) 𝒱₀ sP rect2 (fun _ => rfl) half f _ γ δ ι (rowsP i p)) b (fun x hx => (mem_dst1 x).2 hx)) $$ [Hδ Hd1 HW HI]
  · unfold kept
    isplitl [Hδ Hd1]
    · isplitr; · iexact Hinv
      isplitl [Hδ]; · iexact Hδ
      iexact Hd1
    iexists g; iexists g'
    isplitr; · ipureintro; intro r l h; exact absurd h (Nat.not_lt_zero _)
    isplitl [HW]; · iexact HW
    iexact HI
  iintro HK
  unfold kept
  icases HK with ⟨⟨-, Hδ, Hd1⟩, %g, %g', %hg, HW, HI⟩
  iapply (wp_waitLocalO EC 𝒱₀ (thr d i) none (sem := cc1_scratch5.sem) (srcw := src2 i) (dstw := dst2) none rfl (O := O)
    (W := insert (SemLoc.dma cc1_scratch4.sem, none) W)) $$ [Hf2 HO]
  · isplitl [Hf2]; · iexact Hf2
    isplitl [HO]; · iexact HO
    iapply (MayWaits.elim (SemLoc.dma cc1_scratch5.sem)); iexact Hmw
  iintro ⟨⟨Hγ, Hsrc2⟩, Hs5, HO⟩
  imod (stream_take EC (thr d i) (Set.mem_univ ι)) $$ [Hγ Hδ] with Hd2
  · isplitr; · iexact Hinv
    isplitl [Hγ] <;> iassumption
  ihave Hd2 := (Entails.of_eq (pointsTo_congr (fun x hx => fetched2 i p f x (off_half x hx)))) $$ Hd2
  ihave HP := (pointsTo_split_subset (ℓ := (sP : Memref sig .scVector .vmem S256x64 .f32).view.loc (thr d i)) (Finset.subset_univ half)).2 $$ [Hd1 Hd2]
  · isplitl [Hd1]; · iexact Hd1
    iexact Hd2
  iapply (wp_loop2 d i (readable_pointsTo (thr d i) 𝒱₀ sP (rowsP i p) fullShare) b (fun x => Finset.mem_univ x)) $$ [HP HW HI]
  · unfold kept
    isplitl [HP]; · iexact HP
    iexists g; iexists g'
    isplitr; · ipureintro; exact hg
    isplitl [HW]; · iexact HW
    iexact HI
  iintro HK
  unfold kept
  icases HK with ⟨HP, %w, %w', %hw, HW, HI⟩
  iapply (wp_out d i iprop(Pr ∗ ((src1 i).view.loc (thr d i) ↦[(src1 i).view.set]{s₁} p) ∗ ((src2 i).view.loc (thr d i) ↦[(src2 i).view.set]{s₂} p)
              ∗ semVal (cell (thr d i) cc1_scratch4) 0 ∗ semVal (cell (thr d i) cc1_scratch5) 0
              ∗ ((sP : Memref sig .scVector .vmem S256x64 .f32).view.loc (thr d i) ↦{fullShare} rowsP i p)) p b O
      (W₀ := W₀) (W := insert (SemLoc.dma cc1_scratch5.sem, none) (insert (SemLoc.dma cc1_scratch4.sem, none) W))
      (by
        intro x hx
        rcases Finset.mem_insert.mp hx with rfl | hx
        · exact .inr rfl
        rcases Finset.mem_insert.mp hx with rfl | hx
        · exact .inr rfl
        · exact hW x hx))
  isplitr; · iexact Hmw
  isplitl [HPr Hsrc1 Hsrc2 Hs4 Hs5 HP HW HI]
  · unfold kept
    isplitl [HPr Hsrc1 Hsrc2 Hs4 Hs5 HP]
    · isplitl [HPr]; · iexact HPr
      isplitl [Hsrc1]; · iexact Hsrc1
      isplitl [Hsrc2]; · iexact Hsrc2
      isplitl [Hs4]; · iexact Hs4
      isplitl [Hs5]; · iexact Hs5
      iexact HP
    iexists w; iexists w'
    isplitr; · ipureintro; exact hw
    isplitl [HW]; · iexact HW
    iexact HI
  isplitl [Hw]; · iexact Hw
  isplitl [Hi]; · iexact Hi
  isplitl [Hs1]; · iexact Hs1
  isplitl [Hs2]; · iexact Hs2
  iexact HO

/-- The task, from what it is handed to what it brings back. -/
theorem tile_body (p : (d : Dev nD) → S8192x64.Idx → F .f32) (b : (d : Dev nD) → S64.Idx → F .f32)
    (hF : (K (F := F)).Facts) (O : CellTallies nD τ sig (HIx 1)) (W : Waits sig (HIx 1)) (hO : ∀ g, O g none = 0) :
    iprop(levAts (K (F := F)).L (K (F := F)).lev ∗ goP p b d i ∗ scopedBufs (thr d i) ∗ scopedSems0 (thr d i) ∗ owes (thr d i) O W)
      ⊢ wp frame (wpE (defs₀ (F := F)) 𝒱₀ (thr d i) none) Set.univ
          (cc1__sc_topk_body (F := F) i hP (Memref.isWhole_whole _) hB (Memref.isWhole_whole _) hW (Memref.isWhole_whole _) hI (Memref.isWhole_whole _)
            sP (Memref.isWhole_whole _) sB (Memref.isWhole_whole _) sW (Memref.isWhole_whole _) sI (Memref.isWhole_whole _)
            cc1_scratch4 cc1_scratch5 cc1_scoped0 cc1_scoped1 cc1_scoped2)
          fun _ => iprop(tdP p b d i ∗ scopedBufs (thr d i) ∗ scopedSems0 (thr d i)
            ∗ ∃ W', ⌜∀ p ∈ W', p ∈ W ∨ p.2 = none⌝ ∗ owes (thr d i) O W') := by
  rw [task_eq, (K (F := F)).scopedBufs_V hF d _ _, SparseCore.Cfg.scopedSems0_V (Val := Elt F) d _ _, ownSems0_task, ownBufs_task]
  unfold goP taskProg
  iintro ⟨#Hlv, ⟨Hp, Hb, Hw, Hi⟩, ⟨⟨%f, HP⟩, ⟨%fb, HB⟩, HW, HI, Hbufs⟩, ⟨Hs4, Hs5, Hs0, Hs1, Hs2, Hsems⟩, HO⟩
  ihave #Hmw := ((K (F := F)).mayWaits_none (thr := thr d i) hO) $$ Hlv
  ihave Hp := (lend (src1 i).view.set (q i) (p d)) $$ Hp
  icases Hp with ⟨Hp1, Hp1r, Hp⟩
  ihave Hp := (lend (src2 i).view.set (q i).right (p d)) $$ Hp
  icases Hp with ⟨Hp2, Hp2r, Hp⟩
  ihave HP := (pointsTo_split_subset (ℓ := (sP : Memref sig .scVector .vmem S256x64 .f32).view.loc (thr d i)) (Finset.subset_univ half)).1 $$ HP
  icases HP with ⟨HP1, HP2⟩
  -- the two fetches of the rows start
  iapply (wp_dmaLocal EC 𝒱₀ (thr d i) none (src := src1 i) (dst := dst1) (sm := .dma cc1_scratch4.sem) (q := (q i).left) (fs := p d) (fd := f) none
    (dst1 : Memref sig .scVector .vmem S128x64 .f32).view.dmaCredit rfl (View.dmaCredit_pos _ (by decide)) (Finset.Subset.refl _)) $$ [Hp1 HP1 Hs4]
  · isplitl [Hp1]; · iexact Hp1
    isplitl [HP1]; · iexact HP1
    iexact Hs4
  iintro Hf1
  iapply (wp_dmaStream EC (thr d i) 𝒱₀ none (src := src2 i) (dst := dst2) (sm := .dma cc1_scratch5.sem) (q := (q i).right.left) (fs := p d) (fd := f) none
    (dst2 : Memref sig .scVector .vmem S128x64 .f32).view.dmaCredit rfl (View.dmaCredit_pos _ (by decide)) half_off) $$ [Hp2 HP2 Hs5]
  · isplitl [Hp2]; · iexact Hp2
    isplitl [HP2]; · iexact HP2
    iexact Hs5
  iintro %γ %δ %ι #Hinv Hδ Hf2
  -- the bias is fetched and loaded
  ihave Hb := (Entails.of_eq (congrArg (fun S => (hB : Memref sig .scVector .hbm S64 .f32).view.loc (thr d i) ↦[S]{q i} b d)
    (View.set_whole (main_arg2_scv : Ref sig .scVector)).symm)) $$ Hb
  ihave HB := (Entails.of_eq (congrArg (fun S => (sB : Memref sig .scVector .vmem S64 .f32).view.loc (thr d i) ↦[S]{fullShare} fb)
    (View.set_whole (cc1_scratch1 : Ref sig .scVector)).symm)) $$ HB
  iapply (wp_dmaLocal EC 𝒱₀ (thr d i) none (src := hB) (dst := sB) (sm := .dma cc1_scoped0.sem) (q := q i) (fs := b d) (fd := fb) none
    (sB : Memref sig .scVector .vmem S64 .f32).view.dmaCredit rfl (View.dmaCredit_pos _ (by decide)) (Finset.Subset.refl _)) $$ [Hb HB Hs0]
  · isplitl [Hb]; · iexact Hb
    isplitl [HB]; · iexact HB
    iexact Hs0
  iintro Hf0
  iapply (wp_waitLocalO EC 𝒱₀ (thr d i) none (sem := cc1_scoped0.sem) (srcw := hB) (dstw := sB) none rfl (O := O) (W := W)) $$ [Hf0 HO]
  · isplitl [Hf0]; · iexact Hf0
    isplitl [HO]; · iexact HO
    iapply (MayWaits.elim (SemLoc.dma cc1_scoped0.sem)); iexact Hmw
  iintro ⟨⟨HB, Hb⟩, Hs0, HO⟩
  ihave Hb := (Entails.of_eq (congrArg (fun S => (hB : Memref sig .scVector .hbm S64 .f32).view.loc (thr d i) ↦[S]{q i} b d)
    (View.set_whole (main_arg2_scv : Ref sig .scVector)))) $$ Hb
  ihave HB := (Entails.of_eq (congrArg (fun S => (sB : Memref sig .scVector .vmem S64 .f32).view.loc (thr d i) ↦[S]{fullShare} _)
    (View.set_whole (cc1_scratch1 : Ref sig .scVector)))) $$ HB
  ihave HB := (Entails.of_eq (pointsTo_congr (fetchedB (b d) fb))) $$ HB
  iapply (wp_load 𝒱₀ (thr d i) none Set.univ (m := sB) (S := Finset.univ) (f := b d) (Finset.subset_univ _)) $$ HB
  iintro HB
  iapply (wp_load 𝒱₀ (thr d i) none Set.univ (m := sB) (S := Finset.univ) (f := b d) (Finset.subset_univ _)) $$ HB
  iintro HB
  iapply (wp_load 𝒱₀ (thr d i) none Set.univ (m := sB) (S := Finset.univ) (f := b d) (Finset.subset_univ _)) $$ HB
  iintro HB
  iapply (wp_load 𝒱₀ (thr d i) none Set.univ (m := sB) (S := Finset.univ) (f := b d) (Finset.subset_univ _)) $$ HB
  iintro HB
  rw [loadedB (b d) 0 (by decide), loadedB (b d) 16 (by decide), loadedB (b d) 32 (by decide), loadedB (b d) 48 (by decide)]
  iapply (((wp_taskRest d i iprop((pLoc d ↦[Finset.univ \ (src1 i).view.set]{(q i).left} p d) ∗ (pLoc d ↦[Finset.univ \ (src2 i).view.set]{(q i).right.left} p d)
      ∗ (pLoc d ↦{(q i).right.right} p d) ∗ (bLoc d ↦{q i} b d) ∗ ((thr d i).loc cc1_scratch1 ↦{fullShare} b d)
      ∗ semVal (cell (thr d i) cc1_scoped0) 0
      ∗ (bigSep (restBufs i) fun b => iprop(∃ f, ((d, b) : Loc nD τ sig) ↦{fullShare} f)) ∗ bigSep (restCells d i) fun g => semVal g 0)
      (p d) (b d) (q i).left (q i).right.left f γ δ ι O (W₀ := W) (W := insert (SemLoc.dma cc1_scoped0.sem, none) W)
      (by
        intro x hx
        rcases Finset.mem_insert.mp hx with rfl | hx
        · exact .inr rfl
        · exact .inl hx)).trans (wp_mono frame _ _ fun _ => ?post)))
  case post =>
    unfold tdP
    iintro ⟨⟨⟨Hp1r, Hp2r, Hp, Hb, HB, Hs0, Hbufs, Hsems⟩, Hp1, Hp2, Hs4, Hs5, HP⟩, Hw, Hi, HW, HI, Hs1, Hs2, HO⟩
    ihave Hp := (unlend (ℓ := pLoc d) (src2 i).view.set (q i).right (p d)) $$ [Hp2 Hp2r Hp]
    · isplitl [Hp2]; · iexact Hp2
      isplitl [Hp2r] <;> iassumption
    ihave Hp := (unlend (ℓ := pLoc d) (src1 i).view.set (q i) (p d)) $$ [Hp1 Hp1r Hp]
    · isplitl [Hp1]; · iexact Hp1
      isplitl [Hp1r] <;> iassumption
    isplitl [Hp Hb Hw Hi]
    · isplitl [Hp]; · iexact Hp
      isplitl [Hb]; · iexact Hb
      isplitl [Hw] <;> iassumption
    isplitl [HP HB HW HI Hbufs]
    · isplitl [HP]; · iexists _; iexact HP
      isplitl [HB]; · iexists _; iexact HB
      isplitl [HW]; · iexact HW
      isplitl [HI]; · iexact HI
      iexact Hbufs
    isplitl [Hs4 Hs5 Hs0 Hs1 Hs2 Hsems]
    · isplitl [Hs4]; · iexact Hs4
      isplitl [Hs5]; · iexact Hs5
      isplitl [Hs0]; · iexact Hs0
      isplitl [Hs1]; · iexact Hs1
      isplitl [Hs2]; · iexact Hs2
      iexact Hsems
    iexact HO
  isplitr; · iexact Hmw
  isplitl [Hp1r Hp2r Hp Hb HB Hs0 Hbufs Hsems]
  · isplitl [Hp1r]; · iexact Hp1r
    isplitl [Hp2r]; · iexact Hp2r
    isplitl [Hp]; · iexact Hp
    isplitl [Hb]; · iexact Hb
    isplitl [HB]; · iexact HB
    isplitl [Hs0]; · iexact Hs0
    isplitl [Hbufs]; · iexact Hbufs
    iexact Hsems
  isplitl [Hf1]; · iexact Hf1
  isplitl [Hf2]; · iexact Hf2
  isplitr; · iexact Hinv
  isplitl [Hδ]; · iexact Hδ
  isplitl [HW]; · iexact HW
  isplitl [HI]; · iexact HI
  isplitl [Hw]; · iexact Hw
  isplitl [Hi]; · iexact Hi
  isplitl [Hs1]; · iexact Hs1
  isplitl [Hs2]; · iexact Hs2
  iexact HO

end Cert.KernelIdeal.Launch

end
-- ==== Proof.Region.lean ====
/- The TensorCore's pallas_call: the probabilities, from the tokens and the weights. -/
module

public import proofs.«01_k».proof.Proof.Setup
public import proofs.«01_k».proof.Proof.Gen.KernelIdeal.Launch
public import proofs.«01_k».proof.Proof.Gen.KernelIdeal.Points
public import Idealize.ShloMosaic.Lib.Pipeline.Value

@[expose] public section

noncomputable section

namespace Cert.KernelIdeal.Launch

open Cert.KernelIdeal Cert.KernelIdeal.Gen Cert.KernelIdeal.Row
open Idealize.ShloMosaic Idealize.ShloMosaic.TcCoe
open Idealize.ShloMosaic.SparseCore (S V T)
open Idealize.ShloMosaic.SparseCore.Cfg (HIx)
open Idealize.ShloMosaic.Pipeline (BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- The probabilities of a block of rows sit at the block's rows: what the call leaves in its result. -/
def PO (x : S8192x2048.Idx → F .f32) (w : S64x2048.Idx → F .f32) : S8192x64.Idx → F .f32 :=
  fun i => k0_pay1 w (fun j => x (ix2 ⟨(i 0).val / 1024 * 1024 + (j 0).val, by
      have h0 : (i 0).val < 8192 := (i 0).isLt
      have h1 : (j 0).val < 1024 := (j 0).isLt
      omega⟩ (j 1)))
    (ix2 ⟨(i 0).val % 1024, Nat.mod_lt _ (by decide)⟩ (i 1))

/-- The tokens' block and the weights' at a point, as the call's windows cut them. -/
def xAt (c : Dev nD) (t : Fin cfg0.N) : S1024x2048.Idx → F .f32 :=
  ((cfg0.win 0).blk t).view.read (Elt F) (m ((cfg0.win 0).arr.view.loc (c : Thread nD τ)))
def wAt (c : Dev nD) (t : Fin cfg0.N) : S64x2048.Idx → F .f32 :=
  ((cfg0.win 1).blk t).view.read (Elt F) (m ((cfg0.win 1).arr.view.loc (c : Thread nD τ)))

/-- The call's proof data: the arrays as launched; the inputs left in place and the result computed; the core owing
    its start signals throughout, and having waited for nothing above level 0. -/
def dat0 (c : Dev nD) : Pipeline.Dat τ (Elt F) (HIx 1) ℕ UU ℕ cfg0 c where
  A w := m ((cfg0.win w).arr.view.loc (c : Thread nD τ))
  after w t := match w with
    | ⟨0, _⟩ => xAt m c t
    | ⟨1, _⟩ => wAt m c t
    | ⟨2, _⟩ => k0_pay1 (wAt m c t) (xAt m c t)
  Φ _ := iprop(emp)
  q _ := fullShare
  owed _ := (K (F := F)).Otc c 0
  recorded _ := {p | (K (F := F)).lev (T c, p.1) p.2 ≤ 0}

abbrev adm : (p : Fin 1) → (pcfgs (F := F) p).Adm := fun p => (cfgs p).toPCfg_adm
def pdats : (p : Fin 1) → (c : Dev nD) → Pipeline.Dat τ (Elt F) (HIx 1) ℕ UU ℕ (Pipeline.pin (pcfgs (F := F)) adm p) c
  | 0 => dat0 m

/-- The two inputs are found as fetched. -/
theorem before0 (c : Dev nD) (t : Fin cfg0.N) (d) : (dat0 m c).before 0 t d = xAt m c t :=
  (dat0 m c).before_in_eq_fetched 0 rfl (fun _ => rfl) (fun _ _ _ => rfl) (fun _ => rfl) t d
theorem before1 (c : Dev nD) (t : Fin cfg0.N) (d) : (dat0 m c).before 1 t d = wAt m c t :=
  (dat0 m c).before_in_eq_fetched 1 rfl (fun _ => rfl) (fun _ _ _ => rfl) (fun _ => rfl) t d

theorem zero2 : (![0, 0] : Fin 2 → ℕ) = fun _ => 0 := by decide

/-- The body on any three whole buffers: the third ends at the probabilities of the first two. -/
theorem wp_probs (c : Dev nD) (i : grid0.Coords) (M0 : Memref sig .tc .vmem S1024x2048 .f32) (h0 : M0.IsWhole) (M1 : Memref sig .tc .vmem S64x2048 .f32) (h1 : M1.IsWhole)
    (M2 : Memref sig .tc .vmem S1024x64 .f32) (h2 : M2.IsWhole) (x : Vec F S1024x2048 .f32) (w : Vec F S64x2048 .f32) (y : Vec F S1024x64 .f32) (Q : PUnit → sProp (MT nD τ sig (HIx 1) (Elt F) ℕ UU ℕ)) :
    iprop(owns (c : Thread nD τ) M0 fullShare x ∗ owns (c : Thread nD τ) M1 fullShare w ∗ owns (c : Thread nD τ) M2 fullShare y
      ∗ (iprop(owns (c : Thread nD τ) M0 fullShare x ∗ owns (c : Thread nD τ) M1 fullShare w ∗ owns (c : Thread nD τ) M2 fullShare (k0_pay1 w x)) -∗ Q ⟨⟩))
      ⊢ wp frame (wpE (defs₀ (F := F)) Variants.none (c : Thread nD τ) none) Set.univ (cc0__mm_softmax_body (F := F) i M0 h0 M1 h1 M2 h2) Q := by
  unfold owns
  iintro ⟨⟨%f0, %e0, H0⟩, ⟨%f1, %e1, H1⟩, ⟨%f2, %e2, H2⟩, Hk⟩
  rw [cc0__mm_softmax_body_eq_skeleton]
  unfold cc0__mm_softmax_body_skel
  simp only [Prog.bind_lift]
  iapply (wp_load Variants.none (c : Thread nD τ) none Set.univ (m := M1) (S := M1.view.set) (f := f1) (View.setOn_subset_set _ _)) $$ H1
  iintro H1
  iapply (wp_load Variants.none (c : Thread nD τ) none Set.univ (m := M0) (S := M0.view.set) (f := f0) (View.setOn_subset_set _ _)) $$ H0
  iintro H0
  iapply (wp_load Variants.none (c : Thread nD τ) none Set.univ (m := M2) (S := M2.view.set) (f := f2) (View.setOn_subset_set _ _)) $$ H2
  iintro H2
  iapply (wp_store Variants.none (c : Thread nD τ) none Set.univ (m := M2) (r := Rect.unit (s := S1024x64) ![0, 0] S1024x64.size inb_S1024x64_S1024x64_0_0) (S := M2.view.set) (f := f2) (View.set_slice_subset _ _)) $$ H2
  iintro H2
  rw [wp_pure]
  imodintro
  iapply Hk
  isplitl [H0]
  · iexists f0; isplitr; · ipureintro; exact e0
    iexact H0
  isplitl [H1]
  · iexists f1; isplitr; · ipureintro; exact e1
    iexact H1
  iexists _
  isplitr; swap; · iexact H2
  ipureintro
  rw [← View.ld_unit_zero (Val := Elt F) (S := S1024x64) zero2 inb_S1024x64_S1024x64_0_0 (M2.view.read (Elt F) _)]
  refine (View.read_write_univ (v := M2.access (Rect.unit (s := S1024x64) ![0, 0] S1024x64.size inb_S1024x64_S1024x64_0_0)) f2 _).trans ?_
  have ex : M0.view.readAt (Elt F) (Rect.unit (s := S1024x2048) ![0, 0] S1024x2048.size inb_S1024x2048_S1024x2048_0_0).toLoadRect f0 = x :=
    (View.ld_unit_zero (Val := Elt F) (S := S1024x2048) zero2 inb_S1024x2048_S1024x2048_0_0 (M0.view.read (Elt F) f0)).trans e0
  have ew : M1.view.readAt (Elt F) (Rect.unit (s := S64x2048) ![0, 0] S64x2048.size inb_S64x2048_S64x2048_0_0).toLoadRect f1 = w :=
    (View.ld_unit_zero (Val := Elt F) (S := S64x2048) zero2 inb_S64x2048_S64x2048_0_0 (M1.view.read (Elt F) f1)).trans e1
  exact congrArg₂ k0_pay1 ew ex

/-- The body's obligation at every point. -/
theorem probs_body (c : Dev nD) : BodyObligation (dat0 (F := F) m c) (defs₀ (F := F)) 𝒱₀ none Set.univ := fun t => by
  rw [bigSep_W0, bigSep_W0]
  simp only [before0, before1]
  iintro ⟨-, HO, ⟨%d0, H0⟩, ⟨%d1, H1⟩, ⟨%d2, H2⟩⟩
  iapply (wp_probs c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (xAt m c t) (wAt m c t) ((dat0 m c).before 2 t d2) _)
  isplitl [H0]; · iexact H0
  isplitl [H1]; · iexact H1
  isplitl [H2]; · iexact H2
  iintro ⟨H0, H1, H2⟩
  isplitr; · iempintro
  isplitl [HO]; · iexact HO
  isplitl [H0]; · iexact H0
  isplitl [H1]; · iexact H1
  iexact H2

/-! ## What the call leaves -/

/-- The coordinates of a point of the one-axis grid, and the blocks' offsets there. -/
theorem point_val (t : Fin cfg0.N) : win0_0.index t 0 = t.val ∧ win0_0.index t 1 = 0 ∧ win0_1.index t 0 = 0 ∧ win0_1.index t 1 = 0
    ∧ win0_2.index t 0 = t.val ∧ win0_2.index t 1 = 0 := by
  rcases fin_N0 t with rfl | rfl | rfl | rfl | rfl | rfl | rfl | rfl <;> decide +kernel

theorem t_lt (t : Fin cfg0.N) : t.val < 8 := lt_of_lt_of_eq t.isLt N_0

/-- The weights' block is the whole array, -/
theorem wAt_eq (c : Dev nD) (t : Fin cfg0.N) : wAt m c t = m ((c : Thread nD τ).loc main_arg1) := by
  funext j
  show m ((c : Thread nD τ).loc main_arg1) _ = _
  congr 1
  funext a
  obtain ⟨-, -, h0, h1, -, -⟩ := point_val t
  match a with
  | ⟨0, _⟩ => exact Fin.ext (show win0_1.index t 0 * 64 + 1 * (j 0).val = (j 0).val by rw [h0]; omega)
  | ⟨1, _⟩ => exact Fin.ext (show win0_1.index t 1 * 2048 + 1 * (j 1).val = (j 1).val by rw [h1]; omega)

/-- and the tokens' is 1024 rows of it. -/
theorem xAt_eq (c : Dev nD) (t : Fin cfg0.N) (j : S1024x2048.Idx) : xAt m c t j
    = m ((c : Thread nD τ).loc main_arg0) (ix2 ⟨t.val * 1024 + (j 0).val, by have h1 : (j 0).val < 1024 := (j 0).isLt; have := t_lt t; omega⟩ (j 1)) := by
  show m ((c : Thread nD τ).loc main_arg0) _ = _
  congr 1
  funext a
  obtain ⟨h0, h1, -, -, -, -⟩ := point_val t
  match a with
  | ⟨0, _⟩ => exact Fin.ext (show win0_0.index t 0 * 1024 + 1 * (j 0).val = t.val * 1024 + (j 0).val by rw [h0]; omega)
  | ⟨1, _⟩ => exact Fin.ext (show win0_0.index t 1 * 2048 + 1 * (j 1).val = (j 1).val by rw [h1]; omega)

/-- A block written back is that block of the probabilities. -/
theorem flushed_probs (c : Dev nD) (t : Fin cfg0.N) : (dat0 m c).flushed 2 t = ((cfg0.win 2).blk t).view.read (Elt F)
    (PO (m ((c : Thread nD τ).loc main_arg0)) (m ((c : Thread nD τ).loc main_arg1))) := by
  funext j
  have hj0 : (j 0).val < 1024 := (j 0).isLt
  obtain ⟨-, -, -, -, h0, h1⟩ := point_val t
  show k0_pay1 (wAt m c t) (xAt m c t) j = PO _ _ _
  have e0 : ((((cfg0.win 2).blk t).view.emb j : S8192x64.Idx) 0).val = t.val * 1024 + (j 0).val := by
    show win0_2.index t 0 * 1024 + 1 * (j 0).val = _; rw [h0]; omega
  have e1 : ((((cfg0.win 2).blk t).view.emb j : S8192x64.Idx) 1).val = (j 1).val := by
    show win0_2.index t 1 * 64 + 1 * (j 1).val = _; rw [h1]; omega
  unfold PO
  rw [wAt_eq]
  congr 1
  · funext k
    rw [xAt_eq]
    congr 1
    funext a
    match a with
    | ⟨0, _⟩ => exact Fin.ext (show t.val * 1024 + (k 0).val = (((cfg0.win 2).blk t).view.emb j 0).val / 1024 * 1024 + (k 0).val by rw [e0]; omega)
    | ⟨1, _⟩ => rfl
  · funext a
    match a with
    | ⟨0, _⟩ => exact Fin.ext (show (j 0).val = (((cfg0.win 2).blk t).view.emb j 0).val % 1024 by rw [e0]; omega)
    | ⟨1, _⟩ => exact Fin.ext e1.symm

/-- The blocks cover the result. -/
theorem probs_cover (i : S8192x64.Idx) : ∃ t : Fin cfg0.N, (cfg0.win 2).flush t = true ∧ i ∈ ((cfg0.win 2).blk t).view.set := by
  have hi0 : (i 0).val < 8192 := (i 0).isLt
  have hi1 : (i 1).val < 64 := (i 1).isLt
  let t : Fin cfg0.N := ⟨(i 0).val / 1024, lt_of_lt_of_eq (by omega : (i 0).val / 1024 < 8) N_0.symm⟩
  refine ⟨t, flush0_2 t, ?_⟩
  show i ∈ ((View.whole main_v0).slice (win0_2.rect t)).set
  rw [View.set_slice_whole, Rect.mem_set_unit]
  obtain ⟨-, -, -, -, h0, h1⟩ := point_val t
  intro a
  match a with
  | ⟨0, _⟩ => exact (show win0_2.index t 0 * 1024 ≤ (i 0).val ∧ (i 0).val < win0_2.index t 0 * 1024 + 1024 by
      rw [h0]; show (i 0).val / 1024 * 1024 ≤ _ ∧ _ < (i 0).val / 1024 * 1024 + 1024; omega)
  | ⟨1, _⟩ => exact (show win0_2.index t 1 * 64 ≤ (i 1).val ∧ (i 1).val < win0_2.index t 1 * 64 + 64 by rw [h1]; omega)

/-- The call leaves the probabilities. -/
theorem final_probs (c : Dev nD) : (dat0 m c).arrAt 2 cfg0.N = PO (m ((c : Thread nD τ).loc main_arg0)) (m ((c : Thread nD τ).loc main_arg1)) :=
  (dat0 m c).arrAt_eq_of_cover 2 _ (fun t _ => flushed_probs m c t) probs_cover

/-! ## The call as a region of the program -/

/-- A buffer of a TensorCore held whole. -/
abbrev pl (c : Dev nD) (b : Ref sig .tc) (f : b.ty.Contents (Elt F)) : sProp 𝕄 := ((c : Thread nD τ).loc b) ↦{fullShare} f

/-- What the core owes before the first SparseCore call, with what it has waited for. -/
abbrev owing (c : Dev nD) : sProp 𝕄 :=
  iprop(∃ W, ⌜(K (F := F)).WBelow (T c) W (8 * SparseCore.Cfg.Blocks.fst 1 1 0)⌝ ∗ owes (T c) ((K (F := F)).Otc c 0) W)

/-- The region's arrays one by one. -/
theorem arrays_eq (c : Dev nD) (Fa) : ((pdats (F := F) m 0 c).arrays Fa : sProp 𝕄)
    = iprop(pl c main_arg0 (Fa 0) ∗ pl c main_arg1 (Fa 1) ∗ pl c main_v0 (Fa 2)) := by
  rw [Pipeline.arrays_eq (Pipeline.pin (pcfgs (F := F)) adm) (pdats m) 0 c launch0.arr_whole ((pdats m 0 c).share_full fun _ => rfl) Fa, bigSep_W0]

theorem arrAt_x (c : Dev nD) : (pdats (F := F) m 0 c).arrAt 0 (Pipeline.pin (pcfgs (F := F)) adm 0).N = m ((c : Thread nD τ).loc main_arg0) :=
  (dat0 (F := F) m c).arrAt_in 0 rfl _
theorem arrAt_w (c : Dev nD) : (pdats (F := F) m 0 c).arrAt 1 (Pipeline.pin (pcfgs (F := F)) adm 0).N = m ((c : Thread nD τ).loc main_arg1) :=
  (dat0 (F := F) m c).arrAt_in 1 rfl _

/-- What is owed lies at the handshakes' indices, above level 0. -/
theorem owed_above (c : Dev nD) (g : GSem nD τ sig) (i : HIx 1) (h : 0 < (K (F := F)).Otc c 0 g i) : i ∈ (K (F := F)).L g ∧ 0 < (K (F := F)).lev g i :=
  ⟨Finset.mem_univ _, Nat.lt_of_lt_of_le (Nat.succ_pos _) (SparseCore.Cfg.lev_of_Otc_pos h)⟩

/-- The region: entered from its three arrays and what is owed, left with the result computed. -/
def reg : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (probs_body m c).loose
  hwaits c := Pipeline.cellsWaits_of_cut _ (pdats m) none 0 c (lev := (K (F := F)).lev) 0 ((K (F := F)).Otc c 0) (fun _ => rfl)
    (fun _ _ => Finset.mem_univ _) (fun _ _ => le_refl _) (owed_above c)
  pre c := iprop((pl c main_arg0 (m ((c : Thread nD τ).loc main_arg0)) ∗ pl c main_arg1 (m ((c : Thread nD τ).loc main_arg1)) ∗ pl c main_v0 (m ((c : Thread nD τ).loc main_v0))) ∗ owing c)
  post c := iprop((pl c main_arg0 (m ((c : Thread nD τ).loc main_arg0)) ∗ pl c main_arg1 (m ((c : Thread nD τ).loc main_arg1)) ∗ pl c main_v0 ((dat0 m c).arrAt 2 cfg0.N)) ∗ owing c)
  X _ := iprop(emp)
  Y _ := iprop(emp)
  Z c := iprop(emp)
  hentry c := by
    rw [Pipeline.ownSems0_none, arrays_eq]
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by iintro -; iempintro
  hout c := by
    rw [Pipeline.ownSems0_none, scopedRest0_eq]
    iintro -; isplitr; · iempintro
    isplitr <;> iempintro
  hexit c := by
    rw [arrays_eq, arrAt_x, arrAt_w]
    unfold Pipeline.Dat.owesAt Pipeline.owesWithin
    iintro ⟨Ha, ⟨%W, %hW, HO⟩, -, -⟩
    imodintro
    isplitl [Ha]; · iexact Ha
    iexists W
    isplitr
    · ipureintro
      intro p hp
      rcases hW hp with h | h
      · exact h
      · obtain ⟨w, s, rfl⟩ := h
        exact Nat.zero_le _
    iexact HO

end Cert.KernelIdeal.Launch

end
-- ==== Proof.Launch.lean ====
/- The 32 tasks of the SparseCore call: each one's body, and the arrays dealt to them and joined after. -/
module

public import proofs.«01_k».proof.Proof.Body
public import proofs.«01_k».proof.Proof.Region

@[expose] public section

noncomputable section

namespace Cert.KernelIdeal.Launch

open Cert.KernelIdeal Cert.KernelIdeal.Gen Cert.KernelIdeal.Row
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig (HIx 1) (Elt F) ℕ UU ℕ

variable (p : (d : Dev nD) → S8192x64.Idx → F .f32) (b : (d : Dev nD) → S64.Idx → F .f32)

/-- What the second kernel's label runs on a subcore. -/
theorem defs₀_vector (c : Fin τ.nSC) (s : Fin τ.nSub) :
    defs₀ (F := F) (.scVector c s) 1 ()
      = SparseCore.onTile hcore1 hsub1 (fun c s => cc1__sc_topk_body (co c s) hP (Memref.isWhole_whole _) hB (Memref.isWhole_whole _)
          hW (Memref.isWhole_whole _) hI (Memref.isWhole_whole _) (Memref.whole cc1_scratch0) (Memref.isWhole_whole _)
          (Memref.whole cc1_scratch1) (Memref.isWhole_whole _) (Memref.whole cc1_scratch2) (Memref.isWhole_whole _)
          (Memref.whole cc1_scratch3) (Memref.isWhole_whole _) cc1_scratch4 cc1_scratch5 cc1_scoped0 cc1_scoped1 cc1_scoped2) ⟨⟩ c s := rfl

omit [FloatOps F] in
/-- A body's close is the obligation's: no wait belongs to a call. -/
theorem obl_close {thr : Thread nD τ} {A B C : sProp (MT nD τ sig (HIx 1) (Elt F) ℕ UU ℕ)} {O : CellTallies nD τ sig (HIx 1)} {W : Waits sig (HIx 1)} {k : Fin 1} :
    iprop(A ∗ B ∗ C ∗ ∃ W', ⌜∀ w ∈ W', w ∈ W ∨ w.2 = none⌝ ∗ owes thr O W')
      ⊢ iprop(A ∗ B ∗ C ∗ ∃ W', ⌜∀ w ∈ W', w ∈ W ∨ w.2 = none ∨ w.2 = some k⌝ ∗ owes thr O W') := by
  iintro ⟨HA, HB, HC, %W', %hW', HO⟩
  isplitl [HA]; · iexact HA
  isplitl [HB]; · iexact HB
  isplitl [HC]; · iexact HC
  iexists W'; isplitr
  · ipureintro; exact fun w hw => (hW' w hw).imp_right Or.inl
  · iexact HO

omit [FloatOps F] in
/-- Nothing is held for the kernel's own protocol. -/
theorem drop_x {A B C : sProp (MT nD τ sig (HIx 1) (Elt F) ℕ UU ℕ)} : iprop(A ∗ emp ∗ B ∗ C) ⊢ iprop(A ∗ B ∗ C) := by
  iintro ⟨HA, -, HB, HC⟩
  isplitl [HA]; · iexact HA
  isplitl [HB] <;> iassumption

/-- Each task's program, from what the task is handed to what it brings back. -/
theorem tileObl : (K (F := F)).TileObl (D (F := F)) 𝒱 (P p b) v₀ 0 := by
  intro d c i O W hO _ _
  simp only [show (P p b).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact drop_x.trans ((tile_body d (co ⟨_, hc.1⟩ ⟨_, hc.2⟩) p b facts O W hO).trans (wp_mono frame _ _ fun _ => obl_close))

/-- A core hands its tasks what it is handed, and hands on what they bring. -/
theorem vecSplit : (K (F := F)).VecSplit' (P p b) 0 := by
  intro d c
  iintro H; imodintro
  isplitl [H]
  · iapply (Entails.of_eq (show (P p b).st 0 d c = bigSep Finset.univ fun i : Fin ((K (F := F)).nSub 0) => (P p b).go 0 d c i from rfl)) $$ H
  iintro H
  iapply (Entails.of_eq (show (bigSep Finset.univ fun i : Fin ((K (F := F)).nSub 0) => (P p b).td 0 d c i) = (P p b).dn 0 d c from rfl)) $$ H

/-! ## Dealing and joining -/

/-- The tasks: core and subcore. -/
abbrev Tk : Type := Fin (grid1.bound 0) × Fin (grid1.bound 1)

/-- A task's number among the 32. -/
def num : Tk ↪ ℕ := ⟨fun x => 2 * x.2.val + x.1.val, fun x y h => by
  have hx : x.1.val < 2 := x.1.isLt
  have hy : y.1.val < 2 := y.1.isLt
  have h' : 2 * x.2.val + x.1.val = 2 * y.2.val + y.1.val := h
  exact Prod.ext (Fin.ext (by omega)) (Fin.ext (by omega))⟩

theorem num_range : Finset.range 32 = (Finset.univ : Finset (Tk)).map num := by
  ext n
  rw [Finset.mem_range, Finset.mem_map]
  constructor
  · intro h
    exact ⟨(⟨n % 2, show n % 2 < 2 by omega⟩, ⟨n / 2, show n / 2 < 16 by omega⟩), Finset.mem_univ _, show 2 * (n / 2) + n % 2 = n by omega⟩
  · rintro ⟨x, -, rfl⟩
    have h1 : x.1.val < 2 := x.1.isLt
    have h2 : x.2.val < 16 := x.2.isLt
    show 2 * x.2.val + x.1.val < 32
    omega

/-- The rows of a task, as a set of positions. -/
def rowsOf (x : Tk) : Finset S8192x16.Idx := (outW (co x.1 x.2)).view.set

theorem rowsOf_I (x : Tk) : ((outI (co x.1 x.2)).view.set : Finset S8192x16.Idx) = rowsOf x := by
  unfold rowsOf
  exact (View.set_slice_whole _ _).trans (View.set_slice_whole _ _).symm

theorem mem_rowsOf (x : Tk) (j : S8192x16.Idx) :
    j ∈ rowsOf x ↔ 512 * x.2.val + 256 * x.1.val ≤ (j 0).val ∧ (j 0).val < 512 * x.2.val + 256 * x.1.val + 256 := by
  unfold rowsOf
  rw [show (outW (co x.1 x.2)).view.set = _ from View.set_slice_whole _ _, Rect.mem_set_unit]
  have h0 : k1_off13 (co x.1 x.2) 0 = 512 * x.2.val + 256 * x.1.val := by rw [k1_off13_eq]; rfl
  have h1 : k1_off13 (co x.1 x.2) 1 = 0 := by rw [k1_off13_eq]; rfl
  have hj : (j 1).val < 16 := (j 1).isLt
  refine Iff.trans (Fin.forall_fin_two (p := fun a : Fin 2 => k1_off13 (co x.1 x.2) a ≤ (j a).val ∧ (j a).val < k1_off13 (co x.1 x.2) a + S256x16.size a)) ?_
  rw [h0, h1]
  constructor
  · exact fun h => h.1
  · exact fun h => ⟨h, Nat.zero_le _, by show (j 1).val < 0 + 16; omega⟩

theorem rowsOf_disjoint : ∀ x ∈ (Finset.univ : Finset (Tk)), ∀ y ∈ (Finset.univ : Finset (Tk)), x ≠ y → Disjoint (rowsOf x) (rowsOf y) := by
  intro x _ y _ h
  rw [Finset.disjoint_left]
  intro j hx hy
  rw [mem_rowsOf] at hx hy
  have h1 : x.1.val < 2 := x.1.isLt
  have h2 : y.1.val < 2 := y.1.isLt
  exact h (Prod.ext (Fin.ext (by omega)) (Fin.ext (by omega)))

theorem rowsOf_cover : (Finset.univ : Finset (Tk)).biUnion rowsOf = Finset.univ := by
  ext j
  simp only [Finset.mem_biUnion, Finset.mem_univ, true_and, iff_true]
  have hj : (j 0).val < 8192 := (j 0).isLt
  exact ⟨(⟨(j 0).val / 256 % 2, show (j 0).val / 256 % 2 < 2 by omega⟩, ⟨(j 0).val / 512, show (j 0).val / 512 < 16 by omega⟩), (mem_rowsOf _ _).2
    ⟨show 512 * ((j 0).val / 512) + 256 * ((j 0).val / 256 % 2) ≤ _ by omega,
      show _ < 512 * ((j 0).val / 512) + 256 * ((j 0).val / 256 % 2) + 256 by omega⟩⟩

omit [FloatOps F] in
/-- The weights, whole, are the tasks' rows of them; -/
theorem w_rows (d : Dev nD) (f : S8192x16.Idx → F .f32) :
    (wLoc d ↦{fullShare} f : sProp 𝕄) = bigSep Finset.univ fun x : Tk => wLoc d ↦[rowsOf x]{fullShare} f := by
  rw [← pointsTo_biUnion Finset.univ (ℓ := wLoc d) rowsOf rowsOf_disjoint, rowsOf_cover]

omit [FloatOps F] in
/-- and the expert numbers likewise. -/
theorem i_rows (d : Dev nD) (f : S8192x16.Idx → BitVec 32) :
    (iLoc d ↦{fullShare} f : sProp 𝕄) = bigSep Finset.univ fun x : Tk => iLoc d ↦[rowsOf x]{fullShare} f := by
  rw [← pointsTo_biUnion Finset.univ (ℓ := iLoc d) rowsOf rowsOf_disjoint, rowsOf_cover]

omit [FloatOps F] in
/-- An array read by all is one share each and what is kept. -/
theorem shares (ℓ : Loc nD τ sig) (f : Buf (Elt F) ℓ) :
    (ℓ ↦{fullShare} f : sProp 𝕄) = iprop((ℓ ↦{shareDrop fullShare 32} f) ∗ bigSep Finset.univ fun x : Tk => ℓ ↦{q (co x.1 x.2)} f) := by
  have h := pointsTo_toks_range (nD := nD) (τ := τ) (sig := sig) (Ix := HIx 1) (Val := Elt F) (Name := ℕ) (U := UU) (Lvl := ℕ) (ℓ := ℓ) (S := Finset.univ) (f := f) fullShare 32
  rw [num_range, bigSep_map] at h
  exact Entails.antisymm h.1 h.2

/-- What stays with the TensorCore while the tasks run. -/
def keeps (d : Dev nD) : sProp 𝕄 := iprop((pLoc d ↦{shareDrop fullShare 32} p d) ∗ (bLoc d ↦{shareDrop fullShare 32} b d))

theorem st_eq (d : Dev nD) : (bigSep Finset.univ fun c : Fin ((K (F := F)).nCore 0) => (P p b).st 0 d c)
    = bigSep Finset.univ fun x : Tk => goP p b d (co x.1 x.2) := (bigSep_univ_prod (fun x : Tk => goP p b d (co x.1 x.2))).symm

theorem dn_eq (d : Dev nD) : (bigSep Finset.univ fun c : Fin ((K (F := F)).nCore 0) => (P p b).dn 0 d c)
    = bigSep Finset.univ fun x : Tk => tdP p b d (co x.1 x.2) := (bigSep_univ_prod (fun x : Tk => tdP p b d (co x.1 x.2))).symm

/-- A task's shares and rows are what it is handed. -/
theorem goP_rows (d : Dev nD) (x : Tk) (f : S8192x16.Idx → F .f32) (g : S8192x16.Idx → BitVec 32) :
    iprop((pLoc d ↦{q (co x.1 x.2)} p d) ∗ (bLoc d ↦{q (co x.1 x.2)} b d) ∗ (wLoc d ↦[rowsOf x]{fullShare} f) ∗ (iLoc d ↦[rowsOf x]{fullShare} g))
      ⊢ goP p b d (co x.1 x.2) := by
  unfold goP
  rw [show ((outI (co x.1 x.2)).view.set : Finset S8192x16.Idx) = rowsOf x from rowsOf_I x]
  iintro ⟨Hp, Hb, Hw, Hi⟩
  isplitl [Hp]; · iexact Hp
  isplitl [Hb]; · iexact Hb
  isplitl [Hw]; · iexists f; iexact Hw
  iexists g; iexact Hi

/-- The arrays are dealt to the tasks; -/
theorem deal (d : Dev nD) (f : S8192x16.Idx → F .f32) (g : S8192x16.Idx → BitVec 32) :
    iprop((pLoc d ↦{fullShare} p d) ∗ (bLoc d ↦{fullShare} b d) ∗ (wLoc d ↦{fullShare} f) ∗ (iLoc d ↦{fullShare} g))
      ⊢ iprop(keeps p b d ∗ bigSep Finset.univ fun c : Fin ((K (F := F)).nCore 0) => (P p b).st 0 d c) := by
  rw [st_eq]
  unfold keeps
  rw [shares (pLoc d), shares (bLoc d), w_rows, i_rows]
  iintro ⟨⟨Hp, Hps⟩, ⟨Hb, Hbs⟩, Hw, Hi⟩
  isplitl [Hp Hb]
  · isplitl [Hp] <;> iassumption
  iapply (show iprop((bigSep Finset.univ fun x : Tk => (pLoc d ↦{q (co x.1 x.2)} p d : sProp 𝕄))
      ∗ (bigSep Finset.univ fun x : Tk => (bLoc d ↦{q (co x.1 x.2)} b d : sProp 𝕄))
      ∗ (bigSep Finset.univ fun x : Tk => (wLoc d ↦[rowsOf x]{fullShare} f : sProp 𝕄))
      ∗ (bigSep Finset.univ fun x : Tk => (iLoc d ↦[rowsOf x]{fullShare} g : sProp 𝕄)))
      ⊢ bigSep Finset.univ fun x : Tk => goP p b d (co x.1 x.2) from by
    rw [← bigSep_sep', ← bigSep_sep', ← bigSep_sep']
    exact bigSep_mono fun x _ => goP_rows p b d x f g) $$ [Hps Hbs Hw Hi]
  isplitl [Hps]; · iexact Hps
  isplitl [Hbs]; · iexact Hbs
  isplitl [Hw] <;> iassumption

/-- What a task brings back, by its rows. -/
theorem tdP_rows (d : Dev nD) (x : Tk) : tdP p b d (co x.1 x.2)
    = iprop((pLoc d ↦{q (co x.1 x.2)} p d) ∗ (bLoc d ↦{q (co x.1 x.2)} b d) ∗ (wLoc d ↦[rowsOf x]{fullShare} WO (p d) (b d))
      ∗ iLoc d ↦[rowsOf x]{fullShare} IO (p d) (b d)) := by
  unfold tdP
  rw [show ((outI (co x.1 x.2)).view.set : Finset S8192x16.Idx) = rowsOf x from rowsOf_I x]
  rfl

/-- and joined from what they bring back. -/
theorem join (d : Dev nD) :
    iprop(keeps p b d ∗ bigSep Finset.univ fun c : Fin ((K (F := F)).nCore 0) => (P p b).dn 0 d c)
      ⊢ iprop((pLoc d ↦{fullShare} p d) ∗ (bLoc d ↦{fullShare} b d) ∗ (wLoc d ↦{fullShare} WO (p d) (b d)) ∗ (iLoc d ↦{fullShare} IO (p d) (b d))) := by
  rw [dn_eq, bigSep_congr fun x _ => tdP_rows p b d x]
  unfold keeps
  rw [bigSep_sep', bigSep_sep', bigSep_sep', shares (pLoc d), shares (bLoc d), w_rows, i_rows]
  iintro ⟨⟨Hp, Hb⟩, Hps, Hbs, Hw, Hi⟩
  isplitl [Hp Hps]; · isplitl [Hp] <;> iassumption
  isplitl [Hb Hbs]; · isplitl [Hb] <;> iassumption
  isplitl [Hw] <;> iassumption

end Cert.KernelIdeal.Launch

end
-- ==== Proof.Main.lean ====
/- The program on its TensorCore: the region of the probabilities, the SparseCore call, the two slices; and its run. -/
module

public import proofs.«01_k».proof.Proof.Launch

@[expose] public section

noncomputable section

namespace Cert.KernelIdeal.Launch

open Cert.KernelIdeal Cert.KernelIdeal.Gen Cert.KernelIdeal.Row
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held wp_hlo_within)
open Idealize.ShloMosaic.Rounds Idealize.ShloMosaic.Transfers

variable {F : FTy → Type} [FloatOps F]
local notation "𝕄" => MT nD τ sig (HIx 1) (Elt F) ℕ UU ℕ

variable (m : (ℓ : Loc nD τ sig) → Buf (Elt F) ℓ) (ρ : Dev nD → PrngReg)

/-- The probabilities and the bias of device `d`. -/
def pOf (d : Dev nD) : S8192x64.Idx → F .f32 := PO (m ((SparseCore.T d).loc main_arg0)) (m ((SparseCore.T d).loc main_arg1))
def bOf (d : Dev nD) : S64.Idx → F .f32 := m (bLoc d)

/-- The two results. -/
def wRes (d : Dev nD) : S8192x6.Idx → F .f32 := extractStridedSlice S8192x6 ![0, 0] (WO (pOf m d) (bOf m d)) slices_S8192x16_S8192x6_0_0
def iRes (d : Dev nD) : S8192x6.Idx → BitVec 32 := extractStridedSlice S8192x6 ![0, 0] (IO (pOf m d) (bOf m d)) slices_S8192x16_S8192x6_0_0

/-- The region's ghost state on device `d`. -/
def gst (d : Dev nD) : sProp 𝕄 :=
  iprop(Pipeline.cellsGhost (Pipeline.pin (pcfgs (F := F)) adm) EP 0 d ∗ Pipeline.toksInit (Pipeline.pin (pcfgs (F := F)) adm) EP 0 d)

theorem pin_inj : Function.Injective (Pipeline.cellOf (nD := nD) (τ := τ) (Pipeline.pin (pcfgs (F := F)) adm)) := cellOf_inj

/-- The region's call in the pipeline's labels. -/
def enter : Prog (TpuEff nD τ sig (Elt F) (ΛP (F := F)) .tc) PUnit := .op (.customCall (Pipeline.entry 0) ()) .ret

theorem enter_eq : (SparseCore.liftProg (enter (F := F)) : Prog (TpuEff nD τ sig (Elt F) (SparseCore.Sig (ΛP (F := F)) 1) .tc) PUnit)
    = Prog.lift (.customCall (SparseCore.inner (Pipeline.entry 0)) ()) := rfl

/-- The region's call, from its inputs to its outputs; -/
theorem enter_wp [∀ e, Nonempty (Elt F e)] (d : Dev nD) (Φ : PUnit → sProp (MT nD τ sig (HIx 1) (Elt F) ℕ UU ℕ)) :
    iprop(((boundary (T d) ∗ (reg m).post d) -∗ Φ ⟨⟩) ∗ boundary (T d) ∗ (reg m).pre d ∗ levAts (K (F := F)).L (K (F := F)).lev ∗ gst (F := F) d)
      ⊢ wp frame (wpE (D (F := F)) 𝒱 (SparseCore.T d) none) Set.univ (enter (F := F)) Φ := by
  unfold enter gst
  iintro ⟨Hk, Hb, Hpre, Hlev, Hg⟩
  iapply (Pipeline.RegionSeg.wp (pcfgs (F := F)) adm (pdats m) none pin_inj EP defs₀ 𝒱₀ (K (F := F)).L (K (F := F)).lev (reg m) d none (fun _ h => nomatch h) .ret Φ) $$ [Hk Hb Hpre Hlev Hg]
  isplitl [Hk]
  · iintro H
    rw [wp_ret]; imodintro
    iapply Hk $$ H
  isplitl [Hb]; · iexact Hb
  isplitl [Hpre]; · iexact Hpre
  isplitl [Hlev]; · iexact Hlev
  iexact Hg

/-- and as the program makes it. -/
theorem call_probs [∀ e, Nonempty (Elt F e)] (d : Dev nD) (Φ : PUnit → sProp (MT nD τ sig (HIx 1) (Elt F) ℕ UU ℕ)) :
    iprop(((boundary (T d) ∗ (reg m).post d) -∗ Φ ⟨⟩) ∗ boundary (T d) ∗ (reg m).pre d ∗ levAts (K (F := F)).L (K (F := F)).lev ∗ gst (F := F) d)
      ⊢ wp frame (wpE ((K (F := F)).defs (D (F := F))) 𝒱 (SparseCore.T d) none) Set.univ
          (Prog.lift (.customCall (SparseCore.inner (Pipeline.entry 0)) ())) Φ := by
  rw [← enter_eq]
  exact (enter_wp m d Φ).trans ((K (F := F)).wp_liftProg (D (F := F)) 𝒱 (SparseCore.T d) Set.univ none (enter (F := F)) Φ)

/-! ## The launch element -/

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => gst (F := F) d)
        ∗ bigSep Finset.univ fun thr : Thread nD τ => bigSep Finset.univ fun q : Fin 1 => (P (pOf m) (bOf m)).x q thr) := by
  unfold u₀
  iintro Hu
  ihave H := (ownU_pair _ _) $$ Hu
  icases H with ⟨HH, HR⟩
  ihave HR' := (own_pair_emb embR _ _) $$ HR
  icases HR' with ⟨HP, -⟩
  ihave HP := (Entails.of_eq (show (BI.own (((Emb.inl : Emb UP (UP × Counters)).trans embR) (initOf (Pipeline.cells (Pipeline.pin (pcfgs (F := F)) adm) pin_inj) (Pipeline.launchToks (Pipeline.pin (pcfgs (F := F)) adm) pin_inj))) : sProp 𝕄)
      = BI.own (EP (initOf (Pipeline.cells (Pipeline.pin (pcfgs (F := F)) adm) pin_inj) (Pipeline.launchToks (Pipeline.pin (pcfgs (F := F)) adm) pin_inj))) from rfl)) $$ HP
  imod (Pipeline.fund_ghost (Pipeline.pin (pcfgs (F := F)) adm) EP pin_inj) $$ HP with ⟨Hc, Ht⟩
  imodintro
  isplitl [HH]; · iexact HH
  isplitl [Hc Ht]
  · unfold gst
    rw [bigSep_sep']
    isplitl [Hc]
    · iapply (Entails.of_eq (bigSep_congr fun d _ => (by rw [show (Finset.univ : Finset (Fin 1)) = {0} from rfl, bigSep_singleton]
        : (bigSep Finset.univ fun p : Fin 1 => Pipeline.cellsGhost (Pipeline.pin (pcfgs (F := F)) adm) EP p d)
          = (Pipeline.cellsGhost (Pipeline.pin (pcfgs (F := F)) adm) EP 0 d : sProp 𝕄)))) $$ Hc
    · iapply (Entails.of_eq (bigSep_congr fun d _ => (by rw [show (Finset.univ : Finset (Fin 1)) = {0} from rfl, bigSep_singleton]
        : (bigSep Finset.univ fun p : Fin 1 => Pipeline.toksInit (Pipeline.pin (pcfgs (F := F)) adm) EP p d)
          = (Pipeline.toksInit (Pipeline.pin (pcfgs (F := F)) adm) EP 0 d : sProp 𝕄)))) $$ Ht
  rw [show (bigSep Finset.univ fun thr : Thread nD τ => bigSep Finset.univ fun q : Fin 1 => (P (pOf m) (bOf m)).x q thr) = (iprop(emp) : sProp 𝕄) from
    (bigSep_congr fun _ _ => bigSep_emp_const _).trans (bigSep_emp_const _)]
  iempintro

/-! ## @main on the TensorCore -/

omit [FloatOps F] in
/-- The TensorCore's arrays. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ (bLoc d ↦{fullShare} W main_arg2) ∗ (pLoc d ↦{fullShare} W main_v0) ∗ (wLoc d ↦{fullShare} W main_v1_0) ∗ (iLoc d ↦{fullShare} W main_v1_1)
      ∗ ((SparseCore.T d).loc main_v2 ↦{fullShare} W main_v2) ∗ ((SparseCore.T d).loc main_v3 ↦{fullShare} W main_v3)) := by
  unfold unscopedBufs
  rw [show (Finset.univ.filter fun b : Ref sig .tc => ¬ b.isScoped) = {main_arg0, main_arg1, main_arg2, main_v0, main_v1_0, main_v1_1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the program leaves the claim: the arguments as launched and the two results. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (bLoc d ↦{fullShare} m (bLoc d)) ∗ ((SparseCore.T d).loc main_v2 ↦{fullShare} wRes m d) ∗ ((SparseCore.T d).loc main_v3 ↦{fullShare} iRes m d))

abbrev w' : DevRef τ sig := Proc.devRef .tc (main_v1_0 : Ref sig .tc)
abbrev i' : DevRef τ sig := Proc.devRef .tc (main_v1_1 : Ref sig .tc)
abbrev o' : DevRef τ sig := Proc.devRef .tc (main_v2 : Ref sig .tc)
abbrev r' : DevRef τ sig := Proc.devRef .tc (main_v3 : Ref sig .tc)
abbrev opW : HloOp τ sig (Elt F) := StableHlo.unary main_v1_0 main_v2 ((extractStridedSlice S8192x6 ![0, 0] · slices_S8192x16_S8192x6_0_0) : (⟨S8192x16, .f32⟩ : BufTy).Contents (Elt F) → (⟨S8192x6, .f32⟩ : BufTy).Contents (Elt F))
abbrev opI : HloOp τ sig (Elt F) := StableHlo.unary main_v1_1 main_v3 ((extractStridedSlice S8192x6 ![0, 0] · slices_S8192x16_S8192x6_0_0) : (⟨S8192x16, .i32⟩ : BufTy).Contents (Elt F) → (⟨S8192x6, .i32⟩ : BufTy).Contents (Elt F))

/-- The contents the slices start from. -/
def VW (d : Dev nD) : Valuation τ sig (Elt F) := Function.update (fun b => m (d, b)) w' (WO (pOf m d) (bOf m d))
def VI (d : Dev nD) : Valuation τ sig (Elt F) := Function.update (fun b => m (d, b)) i' (IO (pOf m d) (bOf m d))

omit [FloatOps F] in
theorem held_wo (d : Dev nD) (W : Valuation τ sig (Elt F)) :
    (held (T d) {w', o'} W : sProp 𝕄) = iprop((wLoc d ↦{fullShare} W w') ∗ (SparseCore.T d).loc main_v2 ↦{fullShare} W o') := by
  unfold held
  rw [SparseCore.bigSep_insert' (by decide), bigSep_singleton]
omit [FloatOps F] in
theorem held_ir (d : Dev nD) (W : Valuation τ sig (Elt F)) :
    (held (T d) {i', r'} W : sProp 𝕄) = iprop((iLoc d ↦{fullShare} W i') ∗ (SparseCore.T d).loc main_v3 ↦{fullShare} W r') := by
  unfold held
  rw [SparseCore.bigSep_insert' (by decide), bigSep_singleton]

theorem VW_w (d : Dev nD) : VW m d w' = WO (pOf m d) (bOf m d) := Function.update_self _ _ _
theorem VW_o (d : Dev nD) : VW m d o' = m ((SparseCore.T d).loc main_v2) := Function.update_of_ne (show o' ≠ w' by decide) _ _
theorem VI_i (d : Dev nD) : VI m d i' = IO (pOf m d) (bOf m d) := Function.update_self _ _ _
theorem VI_r (d : Dev nD) : VI m d r' = m ((SparseCore.T d).loc main_v3) := Function.update_of_ne (show r' ≠ i' by decide) _ _

theorem resW (d : Dev nD) : (opW (F := F)).result (VW m d) o' = wRes m d := by
  refine (StableHlo.unary_result _ _ _ _ _ _).trans ?_
  show extractStridedSlice S8192x6 ![0, 0] (VW m d w') _ = _
  rw [VW_w]; rfl
theorem resI (d : Dev nD) : (opI (F := F)).result (VI m d) r' = iRes m d := by
  refine (StableHlo.unary_result _ _ _ _ _ _).trans ?_
  show extractStridedSlice S8192x6 ![0, 0] (VI m d i') _ = _
  rw [VI_i]; rfl

theorem subW : (opW (F := F)).bufs ⊆ {w', o'} := show ({w', o'} : Finset (DevRef τ sig)) ⊆ {w', o'} by decide
theorem subI : (opI (F := F)).bufs ⊆ {i', r'} := show ({i', r'} : Finset (DevRef τ sig)) ⊆ {i', r'} by decide

theorem pre_eq (d : Dev nD) : iprop((((SparseCore.T d).loc main_arg0 ↦{fullShare} m ((SparseCore.T d).loc main_arg0)) ∗ ((SparseCore.T d).loc main_arg1 ↦{fullShare} m ((SparseCore.T d).loc main_arg1))
      ∗ (pLoc d ↦{fullShare} m (pLoc d))) ∗ owing (F := F) d) = (reg m).pre d := rfl
theorem post_eq (d : Dev nD) : (reg m).post d = iprop((((SparseCore.T d).loc main_arg0 ↦{fullShare} m ((SparseCore.T d).loc main_arg0)) ∗ ((SparseCore.T d).loc main_arg1 ↦{fullShare} m ((SparseCore.T d).loc main_arg1))
      ∗ (pLoc d ↦{fullShare} pOf m d)) ∗ owing (F := F) d) := by
  unfold pOf
  rw [← final_probs]; rfl

/-- The program on device `d`: the region, the call, the two slices. -/
theorem hmain [∀ e, Nonempty (Elt F e)] (κ : GSem nD τ sig → ℕ) (d : Dev nD) :
    iprop((K (F := F)).ctx EH (P (pOf m) (bOf m)) κ ∗ (K (F := F)).tcSt EH d 0 ∗ (K (F := F)).tcRes m ρ d ∗ gst (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hw, Hbias, Hp, Hwo, Hio, H2, H3⟩, Hts, -⟩, Hg⟩
  ihave #Hlev := ((K (F := F)).ctx_levAts (EH := EH) (P := P (pOf m) (bOf m)) κ) $$ Hctx
  ihave Hst' := (Entails.of_eq (show (K (F := F)).tcSt EH d 0 = iprop(owing (F := F) d ∗ _) from rfl)) $$ Hst
  icases Hst' with ⟨Howe, Hst⟩
  iapply (call_probs m d _) $$ [Howe Hst Hb Hx Hw Hbias Hp Hwo Hio H2 H3 Hts Hg]
  isplitr [Hb Hx Hw Hp Howe Hg]
  · iintro ⟨Hb, Hpost⟩
    ihave Hpost' := (Entails.of_eq (post_eq m d)) $$ Hpost
    icases Hpost' with ⟨⟨Hx, Hw, Hp⟩, Howe⟩
    ihave Hd := (deal (pOf m) (bOf m) d (m (wLoc d)) (m (iLoc d))) $$ [Hp Hbias Hwo Hio]
    · isplitl [Hp]; · iexact Hp
      isplitl [Hbias]; · iexact Hbias
      isplitl [Hwo] <;> iassumption
    icases Hd with ⟨Hkeep, Hgo⟩
    iapply ((K (F := F)).wp_run (D (F := F)) 𝒱 (EH := EH) (P := P (pOf m) (bOf m)) κ d 0) $$ [Howe Hst Hb Hx Hw Hkeep Hgo H2 H3 Hts]
    isplitr; · iexact Hctx
    isplitl [Howe Hst]
    · iapply (Entails.of_eq (show iprop(owing (F := F) d ∗ _) = (K (F := F)).tcSt EH d 0 from rfl)) $$ [Howe Hst]
      isplitl [Howe]; · iexact Howe
      iexact Hst
    isplitl [Hgo]; · iexact Hgo
    iintro ⟨Hst, Hdn⟩
    ihave Hj := (join (pOf m) (bOf m) d) $$ [Hkeep Hdn]
    · isplitl [Hkeep] <;> iassumption
    icases Hj with ⟨-, Hbias, Hwo, Hio⟩
    iapply (wp_hlo_within 𝒱 (SparseCore.T d) none Set.univ (op := opW) (S := {w', o'}) subW (V := VW m d)) $$ [Hb Hwo H2]
    · isplitl [Hb]; · iexact Hb
      rw [held_wo, VW_w, VW_o]
      isplitl [Hwo] <;> iassumption
    iintro ⟨Hb, Hheld⟩
    ihave Hh := (Entails.of_eq (held_wo (F := F) d _)) $$ Hheld
    icases Hh with ⟨-, H2⟩
    ihave H2 := (Entails.of_eq (congrArg (fun f => ((SparseCore.T d).loc main_v2 ↦{fullShare} f : sProp 𝕄)) (resW m d))) $$ H2
    rw [wp_ret]; imodintro
    iapply (wp_hlo_within 𝒱 (SparseCore.T d) none Set.univ (op := opI) (S := {i', r'}) subI (V := VI m d)) $$ [Hb Hio H3]
    · isplitl [Hb]; · iexact Hb
      rw [held_ir, VI_i, VI_r]
      isplitl [Hio] <;> iassumption
    iintro ⟨Hb, Hheld⟩
    ihave Hh := (Entails.of_eq (held_ir (F := F) d _)) $$ Hheld
    icases Hh with ⟨-, H3⟩
    ihave H3 := (Entails.of_eq (congrArg (fun f => ((SparseCore.T d).loc main_v3 ↦{fullShare} f : sProp 𝕄)) (resI m d))) $$ H3
    rw [wp_ret]; imodintro; imodintro
    isplitl [Hst]; · iexact Hst
    isplitr [Hb Hts]
    · unfold FIN
      isplitl [Hx]; · iexact Hx
      isplitl [Hw]; · iexact Hw
      isplitl [Hbias]; · iexact Hbias
      isplitl [H2] <;> iassumption
    isplitl [Hb] <;> iassumption
  isplitl [Hb]; · iexact Hb
  isplitl [Hx Hw Hp Howe]
  · iapply (Entails.of_eq (pre_eq m d)) $$ [Hx Hw Hp Howe]
    isplitr [Howe]
    · isplitl [Hx]; · iexact Hx
      isplitl [Hw] <;> iassumption
    iexact Howe
  isplitr; · iexact Hlev
  iexact Hg

/-- What holds of the memory at the end. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem (bLoc d) = m (bLoc d) ∧ s'.mem.mem ((SparseCore.T d).loc main_v2) = wRes m d ∧ s'.mem.mem ((SparseCore.T d).loc main_v3) = iRes m d

omit [FloatOps F] in
/-- A buffer held whole is read off the state, which is kept. -/
theorem read_off (ℓ : Loc nD τ sig) (f : Buf (Elt F) ℓ) (s' : Phys nD τ sig (Elt F)) :
    iprop((ℓ ↦{fullShare} f) ∗ SI s') ⊢ (iprop(⌜s'.mem.mem ℓ = f⌝ ∗ (ℓ ↦{fullShare} f) ∗ SI s') : sProp 𝕄) := by
  refine persistent_entails_right (P := iprop((ℓ ↦{fullShare} f) ∗ SI s')) (Q := iprop(⌜s'.mem.mem ℓ = f⌝)) ?_
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  unfold FIN
  iintro ⟨⟨H0, H1, H2, H3, H4⟩, HSI⟩
  ihave H := (read_off _ _ s') $$ [H0 HSI]
  · isplitl [H0] <;> iassumption
  icases H with ⟨%h0, -, HSI⟩
  ihave H := (read_off _ _ s') $$ [H1 HSI]
  · isplitl [H1] <;> iassumption
  icases H with ⟨%h1, -, HSI⟩
  ihave H := (read_off _ _ s') $$ [H2 HSI]
  · isplitl [H2] <;> iassumption
  icases H with ⟨%h2, -, HSI⟩
  ihave H := (read_off _ _ s') $$ [H3 HSI]
  · isplitl [H3] <;> iassumption
  icases H with ⟨%h3, -, HSI⟩
  ihave H := (read_off _ _ s') $$ [H4 HSI]
  · isplitl [H4] <;> iassumption
  icases H with ⟨%h4, -⟩
  ipureintro; exact ⟨h0, h1, h2, h3, h4⟩

/-- The claim of a run's end. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem (bLoc d) = m (bLoc d) ∧ r.2.mem ((SparseCore.T d).loc main_v2) = wRes m d ∧ r.2.mem ((SparseCore.T d).loc main_v3) = iRes m d)
  ∧ r.2.sem = fun _ => 0

/-- The program's run, at any float interpretation. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (pOf m) (bOf m)) (A := ∅) facts v₀
    (fun q hq => match q with | 0 => nomatch hq)
    (fun q _ => match q with | 0 => tileObl (pOf m) (bOf m))
    (fun q _ => match q with | 0 => SparseCore.Cfg.VecSplit.of_plain (vecSplit (pOf m) (bOf m)))
    m ρ main (fun d => gst (F := F) d) (FIN m) (u₀ (F := F)) (sep_elim_left.trans (hu₀ m)) (hmain m ρ) (fq m) (hfin m) (QC m) (fun _ h hz => ⟨h, hz⟩)

end Cert.KernelIdeal.Launch

end
-- ==== Proof.Frames.lean ====
/- The frames: the kernel as printed, its idealization and the reference. -/
module

public import proofs.«01_k».proof.Defs
public import proofs.«01_k».proof.Proof.Gen.Kernel
public import proofs.«01_k».proof.Proof.Gen.ReferenceIdeal.Run
public import proofs.«01_k».proof.Proof.Main

@[expose] public section

noncomputable section

namespace Cert.Proof

open Idealize.ShloMosaic Idealize.SL.Sem

/-- The two printed programs run the same bodies, -/
theorem bodies_same {F : FTy → Type} [FloatOps F] : Cert.Kernel.defs₀ (F := F) = Cert.KernelIdeal.defs₀ := by
  funext c l a
  match c, l, a with
  | .tc, 0, _ => rfl
  | .tc, 1, _ => rfl
  | .scVector _ _, 0, _ => rfl
  | .scVector _ _, 1, _ => rfl
  | .scScalar _, 0, _ => rfl
  | .scScalar _, 1, _ => rfl

/-- and so the same table of them. -/
theorem tables_same {F : FTy → Type} [FloatOps F] : Cert.Kernel.defs (F := F) = Cert.KernelIdeal.defs := by
  unfold Cert.Kernel.defs
  rw [bodies_same]
  rfl

/-- The kernel as printed runs, its arguments kept and its counters at zero; -/
theorem frame_kernel : Cert.quiescent_Kernel := by
  intro m ρ _
  rw [tables_same]
  exact (θ_run Cert.KernelIdeal.defs _ _).mono (fun _ h => ⟨fun c => ⟨(h.1 c).1, (h.1 c).2.1, (h.1 c).2.2.1⟩, h.2⟩)
    (Cert.KernelIdeal.Launch.run_main (F := Bits) m ρ)

/-- so does its idealization, -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (Cert.KernelIdeal.Launch.run_main (F := Ideal) m ρ)

/-- and the reference. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.Order.lean ====
/- Ranks in a finite family of distinct values, and the eight greatest of 64 found from four ordered sixteens. -/
module

public import proofs.«01_k».proof.Proof.Setup

@[expose] public section

noncomputable section

namespace Cert.Ranks

variable {R : Type} [LinearOrder R]

/-- How many of the family are greater than `v`. -/
def above {n : ℕ} (k : Fin n → R) (v : R) : ℕ := (Finset.univ.filter fun j => v < k j).card

/-- A greater value has fewer above it. -/
theorem above_mono {n : ℕ} (k : Fin n → R) {v w : R} (h : v ≤ w) : above k w ≤ above k v :=
  Finset.card_le_card fun j hj => Finset.mem_filter.2 ⟨Finset.mem_univ _, lt_of_le_of_lt h (Finset.mem_filter.1 hj).2⟩

/-- A member greater than `v` has fewer above it by itself at least. -/
theorem above_lt {n : ℕ} (k : Fin n → R) {v : R} {j : Fin n} (h : v < k j) : above k (k j) < above k v :=
  Finset.card_lt_card (Finset.ssubset_iff_subset_ne.2 ⟨fun i hi => Finset.mem_filter.2 ⟨Finset.mem_univ _, lt_trans h (Finset.mem_filter.1 hi).2⟩,
    fun e => lt_irrefl _ (Finset.mem_filter.1 (e ▸ Finset.mem_filter.2 ⟨Finset.mem_univ j, h⟩ : j ∈ Finset.univ.filter fun i => k j < k i)).2⟩)

/-- Fewer than all members are above a member. -/
theorem above_lt_card {n : ℕ} (k : Fin n → R) (l : Fin n) : above k (k l) < n := by
  have h := Finset.card_lt_card (Finset.filter_ssubset.2 ⟨l, Finset.mem_univ l, lt_irrefl (k l)⟩ : (Finset.univ.filter fun j => k l < k j) ⊂ Finset.univ)
  rwa [Finset.card_univ, Fintype.card_fin] at h

/-- Of distinct values no two members have the same number above them. -/
theorem above_inj {n : ℕ} {k : Fin n → R} (hk : Function.Injective k) {l l' : Fin n} (h : above k (k l) = above k (k l')) : l = l' := by
  rcases lt_trichotomy (k l) (k l') with h1 | h1 | h1
  · exact absurd h (Nat.ne_of_gt (above_lt k h1))
  · exact hk h1
  · exact absurd h (Nat.ne_of_lt (above_lt k h1))

/-- Every place is taken. -/
theorem exists_place {n : ℕ} {k : Fin n → R} (hk : Function.Injective k) (i : Fin n) : ∃ l, above k (k l) = i.val := by
  have hinj : Function.Injective fun l : Fin n => (⟨above k (k l), above_lt_card k l⟩ : Fin n) :=
    fun a b h => above_inj hk (Fin.mk.inj h)
  obtain ⟨l, hl⟩ := (Finite.injective_iff_surjective.1 hinj) i
  exact ⟨l, congrArg Fin.val hl⟩

/-- The member at place `i`, greatest first. -/
def ord {n : ℕ} {k : Fin n → R} (hk : Function.Injective k) (i : Fin n) : Fin n := (exists_place hk i).choose

/-- The member at a place has as many members above it as the place says. -/
theorem above_ord {n : ℕ} {k : Fin n → R} (hk : Function.Injective k) (i : Fin n) : above k (k (ord hk i)) = i.val := (exists_place hk i).choose_spec

/-- A member with `i` members above it is the one at place `i`. -/
theorem ord_eq {n : ℕ} {k : Fin n → R} (hk : Function.Injective k) {l i : Fin n} (h : above k (k l) = i.val) : ord hk i = l :=
  above_inj hk ((above_ord hk i).trans h.symm)

/-- Different places have different members. -/
theorem ord_inj {n : ℕ} {k : Fin n → R} (hk : Function.Injective k) : Function.Injective (ord hk) := fun i j h =>
  Fin.ext (by rw [← above_ord hk i, ← above_ord hk j, h])

/-- Of two places the earlier has the greater member. -/
theorem ord_lt {n : ℕ} {k : Fin n → R} (hk : Function.Injective k) {i j : Fin n} (h : i < j) : k (ord hk j) < k (ord hk i) := by
  rcases lt_trichotomy (k (ord hk i)) (k (ord hk j)) with h1 | h1 | h1
  · have := above_lt k h1
    rw [above_ord, above_ord] at this
    exact absurd this (by have := Fin.lt_def.1 h; omega)
  · exact absurd (ord_inj hk (hk h1)) (ne_of_lt h)
  · exact h1

/-! ## Four sixteens of 64 -/

/-- Member `l` of sixteen `g`. -/
def mem (g : Fin 4) (l : Fin 16) : Fin 64 := ⟨16 * g.val + l.val, by have := g.isLt; have := l.isLt; omega⟩

/-- A member of the 64 is in one sixteen, at one position. -/
theorem mem_inj {g h : Fin 4} {l l' : Fin 16} (e : mem g l = mem h l') : g = h ∧ l = l' := by
  have e' : 16 * g.val + l.val = 16 * h.val + l'.val := congrArg Fin.val e
  have := l.isLt
  have := l'.isLt
  exact ⟨Fin.ext (by omega), Fin.ext (by omega)⟩

/-- Every member of the 64 is in a sixteen. -/
theorem exists_mem (e : Fin 64) : ∃ g l, e = mem g l :=
  ⟨⟨e.val / 16, by have := e.isLt; omega⟩, ⟨e.val % 16, by omega⟩, Fin.ext (by show e.val = 16 * (e.val / 16) + e.val % 16; omega)⟩

variable {s : Fin 64 → R} (hs : Function.Injective s)

/-- The sixteen's values. -/
def part (s : Fin 64 → R) (g : Fin 4) : Fin 16 → R := fun l => s (mem g l)

include hs in
/-- A sixteen's values are distinct. -/
theorem part_inj (g : Fin 4) : Function.Injective (part s g) := fun a b h => (mem_inj (hs h)).2

/-- The sixteen's member at place `r`. -/
def at' (g : Fin 4) (r : Fin 16) : Fin 64 := mem g (ord (part_inj hs g) r)

/-- A member of the 64 has one sixteen and one place in it. -/
theorem at'_inj {g h : Fin 4} {r r' : Fin 16} (e : at' hs g r = at' hs h r') : g = h ∧ r = r' := by
  obtain ⟨rfl, e2⟩ := mem_inj e
  exact ⟨rfl, ord_inj _ e2⟩

/-- Every member of the 64 has a place in its sixteen. -/
theorem exists_at' (e : Fin 64) : ∃ g r, e = at' hs g r := by
  obtain ⟨g, l, rfl⟩ := exists_mem e
  refine ⟨g, ⟨above (part s g) (part s g l), above_lt_card _ _⟩, ?_⟩
  unfold at'
  rw [ord_eq (part_inj hs g) (l := l) rfl]

/-- What two different sixteens have above `v` is above `v`. -/
theorem above_two (v : R) {g h : Fin 4} (hgh : g ≠ h) : above (part s g) v + above (part s h) v ≤ above s v := by
  unfold above
  rw [← Finset.card_map (f := ⟨mem g, fun a b e => (mem_inj e).2⟩), ← Finset.card_map (f := ⟨mem h, fun a b e => (mem_inj e).2⟩),
    ← Finset.card_union_of_disjoint]
  · refine Finset.card_le_card fun x hx => ?_
    rw [Finset.mem_union, Finset.mem_map, Finset.mem_map] at hx
    rcases hx with ⟨l, hl, rfl⟩ | ⟨l, hl, rfl⟩
    · exact Finset.mem_filter.2 ⟨Finset.mem_univ _, (Finset.mem_filter.1 hl).2⟩
    · exact Finset.mem_filter.2 ⟨Finset.mem_univ _, (Finset.mem_filter.1 hl).2⟩
  · rw [Finset.disjoint_left]
    intro x hx hy
    rw [Finset.mem_map] at hx hy
    obtain ⟨l, -, rfl⟩ := hx
    obtain ⟨l', -, e⟩ := hy
    exact hgh (mem_inj e).1.symm

/-- One of the eight greatest, at place `r` of its sixteen, is greater than place `7 - r` of another. -/
theorem beats {g h : Fin 4} (hgh : g ≠ h) (r r' : Fin 16) (hr : r.val + r'.val = 7) (h8 : above s (s (at' hs g r)) < 8) :
    s (at' hs h r') < s (at' hs g r) := by
  rcases lt_trichotomy (s (at' hs h r')) (s (at' hs g r)) with h1 | h1 | h1
  · exact h1
  · exact absurd (at'_inj hs (hs h1)).1.symm hgh
  · have a1 : above (part s g) (s (at' hs g r)) = r.val := above_ord (part_inj hs g) r
    have a2 : above (part s h) (s (at' hs h r')) = r'.val := above_ord (part_inj hs h) r'
    have a3 : above (part s h) (s (at' hs h r')) < above (part s h) (s (at' hs g r)) := above_lt (part s h) (j := ord (part_inj hs h) r') h1
    have a4 := above_two (s := s) (s (at' hs g r)) hgh
    omega

/-- The lane at which the merge looks at place `r` of sixteen `g`. -/
def laneOf (g : Fin 4) (r : Fin 16) : ℕ :=
  match g with
  | 0 => r.val
  | 1 => 7 - r.val
  | 2 => 8 + r.val
  | 3 => 15 - r.val

/-- A place from a number below sixteen. -/
def pl (n : ℕ) : Fin 16 := ⟨n % 16, Nat.mod_lt _ (by decide)⟩

/-- The merge's candidate at a lane. -/
def cand (l : Fin 16) : Fin 64 :=
  if l.val < 8 then
    if s (at' hs 1 (pl (7 - l.val))) ≤ s (at' hs 0 (pl l.val)) then at' hs 0 (pl l.val) else at' hs 1 (pl (7 - l.val))
  else
    if s (at' hs 3 (pl (15 - l.val))) ≤ s (at' hs 2 (pl (l.val - 8))) then at' hs 2 (pl (l.val - 8)) else at' hs 3 (pl (15 - l.val))

/-- A candidate's sixteen and place give its lane back. -/
theorem cand_lane (l : Fin 16) : ∃ g r, cand hs l = at' hs g r ∧ laneOf g r = l.val ∧ r.val < 8 := by
  have hl := l.isLt
  unfold cand
  split
  · split
    · exact ⟨0, pl l.val, rfl, show l.val % 16 = l.val by omega, show l.val % 16 < 8 by omega⟩
    · exact ⟨1, pl (7 - l.val), rfl, show 7 - (7 - l.val) % 16 = l.val by omega, show (7 - l.val) % 16 < 8 by omega⟩
  · split
    · exact ⟨2, pl (l.val - 8), rfl, show 8 + (l.val - 8) % 16 = l.val by omega, show (l.val - 8) % 16 < 8 by omega⟩
    · exact ⟨3, pl (15 - l.val), rfl, show 15 - (15 - l.val) % 16 = l.val by omega, show (15 - l.val) % 16 < 8 by omega⟩

/-- Different lanes have different candidates. -/
theorem cand_inj : Function.Injective (cand hs) := fun l l' e => by
  obtain ⟨g, r, e1, h1, -⟩ := cand_lane hs l
  obtain ⟨g', r', e2, h2, -⟩ := cand_lane hs l'
  obtain ⟨rfl, rfl⟩ := at'_inj hs (e1.symm.trans (e.trans e2))
  exact Fin.ext (h1.symm.trans h2)

/-- The eight greatest are all candidates. -/
theorem cand_top (e : Fin 64) (h8 : above s (s e) < 8) : ∃ l, cand hs l = e := by
  obtain ⟨g, r, rfl⟩ := exists_at' hs e
  have hr : r.val < 8 := by
    have a1 : above (part s g) (s (at' hs g r)) = r.val := above_ord (part_inj hs g) r
    have a4 := above_two (s := s) (s (at' hs g r)) (show g ≠ g + 1 from (by decide : ∀ x : Fin 4, x ≠ x + 1) g)
    omega
  have e1 : pl r.val = r := Fin.ext (show r.val % 16 = r.val by omega)
  match g, h8 with
  | 0, h8 =>
    refine ⟨⟨r.val, by omega⟩, ?_⟩
    have hb := beats hs (show (0 : Fin 4) ≠ 1 by decide) r (pl (7 - r.val)) (show r.val + (7 - r.val) % 16 = 7 by omega) h8
    unfold cand
    rw [if_pos (show r.val < 8 from hr)]
    simp only [e1]
    exact if_pos hb.le
  | 1, h8 =>
    refine ⟨⟨7 - r.val, by omega⟩, ?_⟩
    have hb := beats hs (show (1 : Fin 4) ≠ 0 by decide) r (pl (7 - r.val)) (show r.val + (7 - r.val) % 16 = 7 by omega) h8
    unfold cand
    rw [if_pos (show 7 - r.val < 8 by omega)]
    simp only [show 7 - (7 - r.val) = r.val by omega, e1]
    exact if_neg (not_le.2 hb)
  | 2, h8 =>
    refine ⟨⟨8 + r.val, by omega⟩, ?_⟩
    have hb := beats hs (show (2 : Fin 4) ≠ 3 by decide) r (pl (15 - (8 + r.val))) (show r.val + (15 - (8 + r.val)) % 16 = 7 by omega) h8
    unfold cand
    rw [if_neg (show ¬ 8 + r.val < 8 by omega)]
    simp only [show 8 + r.val - 8 = r.val by omega, e1]
    exact if_pos hb.le
  | 3, h8 =>
    refine ⟨⟨15 - r.val, by omega⟩, ?_⟩
    have hb := beats hs (show (3 : Fin 4) ≠ 2 by decide) r (pl (15 - r.val - 8)) (show r.val + (15 - r.val - 8) % 16 = 7 by omega) h8
    unfold cand
    rw [if_neg (show ¬ 15 - r.val < 8 by omega)]
    simp only [show 15 - (15 - r.val) = r.val by omega, e1]
    exact if_neg (not_le.2 hb)

/-- The candidates' values. -/
def key (l : Fin 16) : R := s (cand hs l)

/-- The candidates' values are distinct. -/
theorem key_inj : Function.Injective (key hs) := fun a b h => cand_inj hs (hs h)

/-- Among the eight greatest a candidate's place is its place in the whole. -/
theorem above_key (l : Fin 16) (h8 : above s (s (cand hs l)) < 8) : above (key hs) (key hs l) = above s (s (cand hs l)) := by
  unfold above
  rw [← Finset.card_map (f := ⟨cand hs, cand_inj hs⟩)]
  congr 1
  ext e
  rw [Finset.mem_map, Finset.mem_filter]
  constructor
  · rintro ⟨l', hl', rfl⟩
    exact ⟨Finset.mem_univ _, (Finset.mem_filter.1 hl').2⟩
  · rintro ⟨-, he⟩
    obtain ⟨l', rfl⟩ := cand_top hs e (lt_trans (above_lt s he) h8)
    exact ⟨l', Finset.mem_filter.2 ⟨Finset.mem_univ _, he⟩, rfl⟩

/-- The candidate at place `i`, below eight, is the member at place `i` of the whole. -/
theorem cand_ord (i : Fin 16) (hi : i.val < 8) : cand hs (ord (key_inj hs) i) = ord hs ⟨i.val, lt_trans i.isLt (by decide)⟩ := by
  have h1 := above_ord hs ⟨i.val, lt_trans i.isLt (by decide)⟩
  obtain ⟨l, hl⟩ := cand_top hs (ord hs ⟨i.val, lt_trans i.isLt (by decide)⟩) (by rw [h1]; exact hi)
  rw [← hl]
  congr 1
  refine ord_eq (key_inj hs) ?_
  rw [above_key hs l (by rw [hl, h1]; exact hi), hl, h1]

end Cert.Ranks

end
-- ==== Proof.Merge.lean ====
/- What a row's sorts and merges compute on the ideal values when the scores are distinct: the experts at the eight
   first places of the descending order. -/
module

public import proofs.«01_k».proof.Proof.Rows
public import proofs.«01_k».proof.Proof.Order
public import Idealize.ShloMosaic.PureOps.Ideal

@[expose] public section

noncomputable section

namespace Cert.KernelIdeal.Row

open Idealize.ShloMosaic Idealize.SL.Sem
open Cert.KernelIdeal Cert.KernelIdeal.Gen Cert.Ranks

variable {α : Type}

/-- A selection by a decided proposition. -/
theorem sel_ofBool (c : Bool) (a b : α) : Scalar.select (BitVec.ofBool c) a b = if c = true then a else b := by
  cases c <;> rfl

/-- Lane `i` of the lane numbers is `i`. -/
theorem lanes_at (i : Fin 16) : lanes (ix1 i) = BitVec.ofNat 32 i.val := by
  show BitVec.ofNat 32 (0 * 16 + i.val) = _
  rw [Nat.zero_mul, Nat.zero_add]

/-- Signed comparison of two numbers below sixteen, as words. -/
theorem slt_small : ∀ a b : Fin 16, (BitVec.ofNat 32 a.val).slt (BitVec.ofNat 32 b.val) = decide (a < b) := by decide

/-- Equality of two numbers below sixteen, as words. -/
theorem beq_small (a b : ℕ) (ha : a < 16) (hb : b < 16) : (BitVec.ofNat 32 a == BitVec.ofNat 32 b) = decide (a = b) := by
  rw [Bool.eq_iff_iff, beq_iff_eq, decide_eq_true_iff]
  constructor
  · intro h
    have := congrArg BitVec.toNat h
    rw [BitVec.toNat_ofNat, BitVec.toNat_ofNat] at this
    omega
  · rintro rfl; rfl

/-- The first `n` members greater than `v`. -/
def aboveTo (k : Fin 16 → EReal) (v : EReal) (n : ℕ) : ℕ := (Finset.univ.filter fun j : Fin 16 => j.val < n ∧ v < k j).card

/-- One more member is counted when it is greater. -/
theorem aboveTo_succ (k : Fin 16 → EReal) (v : EReal) (n : ℕ) (h : n < 16) :
    aboveTo k v (n + 1) = aboveTo k v n + if v < k ⟨n, h⟩ then 1 else 0 := by
  unfold aboveTo
  split
  · rename_i hv
    rw [← Finset.card_insert_of_notMem (a := (⟨n, h⟩ : Fin 16)) (fun hm => Nat.lt_irrefl n (Finset.mem_filter.1 hm).2.1)]
    congr 1
    ext j
    rw [Finset.mem_insert, Finset.mem_filter, Finset.mem_filter]
    constructor
    · rintro ⟨-, h1, h2⟩
      rcases Nat.lt_succ_iff_lt_or_eq.1 h1 with h3 | h3
      · exact Or.inr ⟨Finset.mem_univ _, h3, h2⟩
      · exact Or.inl (Fin.ext h3)
    · rintro (rfl | ⟨-, h1, h2⟩)
      · exact ⟨Finset.mem_univ _, Nat.lt_succ_self n, hv⟩
      · exact ⟨Finset.mem_univ _, Nat.lt_succ_of_lt h1, h2⟩
  · rename_i hv
    refine (congrArg Finset.card (Finset.ext fun j => ?_)).trans (Nat.add_zero _).symm
    rw [Finset.mem_filter, Finset.mem_filter]
    constructor
    · rintro ⟨-, h1, h2⟩
      rcases Nat.lt_succ_iff_lt_or_eq.1 h1 with h3 | h3
      · exact ⟨Finset.mem_univ _, h3, h2⟩
      · exact absurd (show v < k ⟨n, h⟩ by rw [← show j = ⟨n, h⟩ from Fin.ext h3]; exact h2) hv
    · rintro ⟨-, h1, h2⟩
      exact ⟨Finset.mem_univ _, Nat.lt_succ_of_lt h1, h2⟩

/-- Counted over all sixteen members it is the number above. -/
theorem aboveTo_all (k : Fin 16 → EReal) (v : EReal) : aboveTo k v 16 = above k v := by
  unfold aboveTo above
  congr 1
  ext j
  rw [Finset.mem_filter, Finset.mem_filter]
  exact ⟨fun ⟨a, b⟩ => ⟨a, b.2⟩, fun ⟨a, b⟩ => ⟨a, j.isLt, b⟩⟩

/-- The count of the first `n` lanes ahead of a lane. -/
theorem rankTo_at {k : FVec Ideal S16 .f32} (hk : Function.Injective fun l : Fin 16 => k (ix1 l)) (l : Fin 16) :
    ∀ (n : ℕ) (h : n ≤ 16), rankTo k n h (ix1 l) = BitVec.ofNat 32 (aboveTo (fun l => k (ix1 l)) (k (ix1 l)) n)
  | 0, h => by
    rw [show aboveTo (fun l => k (ix1 l)) (k (ix1 l)) 0 = 0 from Finset.card_eq_zero.2 (Finset.filter_false_of_mem fun j _ hj => Nat.not_lt_zero _ hj.1)]
    rfl
  | n + 1, h => by
    have ih := rankTo_at hk l n (Nat.le_of_succ_le h)
    rw [aboveTo_succ _ _ n h, BitVec.ofNat_add, ← ih]
    show rankTo k n _ (ix1 l) + (Scalar.select (BitVec.ofBool ((BitVec.ofNat 32 n).slt (lanes (ix1 l))))
      (BitVec.ofBool (decide (k (ix1 l) ≤ lane k n h (ix1 l)))) (BitVec.ofBool (decide (k (ix1 l) < lane k n h (ix1 l))))).setWidth 32 = _
    congr 1
    rw [lane_apply, lanes_at, sel_ofBool]
    have hle : n ≠ l.val → decide (k (ix1 l) ≤ k (ix1 ⟨n, h⟩)) = decide (k (ix1 l) < k (ix1 ⟨n, h⟩)) := fun hn => by
      rw [decide_eq_decide]
      exact ⟨fun h1 => lt_of_le_of_ne h1 fun e => hn (congrArg Fin.val (hk e)).symm, le_of_lt⟩
    have hs := slt_small ⟨n, h⟩ l
    rw [show (if (BitVec.ofNat 32 n).slt (BitVec.ofNat 32 l.val) = true then BitVec.ofBool (decide (k (ix1 l) ≤ k (ix1 ⟨n, h⟩)))
        else BitVec.ofBool (decide (k (ix1 l) < k (ix1 ⟨n, h⟩)))) = BitVec.ofBool (decide (k (ix1 l) < k (ix1 ⟨n, h⟩))) from ?_]
    · by_cases hv : k (ix1 l) < k (ix1 ⟨n, h⟩)
      · rw [decide_eq_true hv, if_pos hv]; rfl
      · rw [decide_eq_false hv, if_neg hv]; rfl
    · split
      · rename_i h1
        rw [hle]
        rintro rfl
        rw [hs] at h1
        exact lt_irrefl _ (of_decide_eq_true h1)
      · rfl

/-- A lane's place is the number of lanes above it. -/
theorem rank_at {k : FVec Ideal S16 .f32} (hk : Function.Injective fun l : Fin 16 => k (ix1 l)) (l : Fin 16) :
    rank k (ix1 l) = BitVec.ofNat 32 (above (fun l => k (ix1 l)) (k (ix1 l))) := by
  rw [← aboveTo_all]; exact rankTo_at hk l 16 _

/-- Among the first `n` lanes the one sent to a place is found there. -/
theorem placeTo_at {r : IVec S16 32} {ρ : Fin 16 → ℕ} (hr : ∀ j, r (ix1 j) = BitVec.ofNat 32 (ρ j)) (hρ : ∀ j, ρ j < 16)
    (hinj : Function.Injective ρ) (x : S16.Idx → α) {i l : Fin 16} (hl : ρ l = i.val) :
    ∀ (n : ℕ) (h : n ≤ 16), l.val < n → placeTo r x n h (ix1 i) = x (ix1 l)
  | 0, _, hn => absurd hn (Nat.not_lt_zero _)
  | n + 1, h, hn => by
    show Scalar.select (BitVec.ofBool (lanes (ix1 i) == lane r n h (ix1 i))) (lane x n h (ix1 i)) (placeTo r x n _ (ix1 i)) = _
    rw [lane_apply, lane_apply, lanes_at, hr, beq_small _ _ i.isLt (hρ _), sel_ofBool]
    by_cases hj : n = l.val
    · subst hj
      rw [if_pos (decide_eq_true hl.symm)]
    · rw [if_neg, placeTo_at hr hρ hinj x hl n _ (by omega)]
      intro h1
      exact hj (congrArg Fin.val (hinj ((of_decide_eq_true h1).symm.trans hl.symm)))

/-- Moved to its lanes' places, a vector holds at a place the lane of that place. -/
theorem place_at {k : FVec Ideal S16 .f32} {κ : Fin 16 → EReal} (hκ : Function.Injective κ) (hk : ∀ l, k (ix1 l) = κ l)
    (x : S16.Idx → α) (i : Fin 16) : place (rank k) x (ix1 i) = x (ix1 (ord hκ i)) := by
  have e : (fun l : Fin 16 => k (ix1 l)) = κ := funext hk
  refine placeTo_at (ρ := fun l => above κ (κ l)) (fun j => ?_) (fun j => above_lt_card κ j) (fun a b h => above_inj hκ h) x (above_ord hκ i) 16 _ (ord hκ i).isLt
  rw [rank_at (e ▸ hκ), e, hk]

/-- A lane named by a number is taken. -/
theorem takeTo_at (x : S16.Idx → α) {idx : IVec S16 32} {i t : Fin 16} (hi : idx (ix1 i) = BitVec.ofNat 32 t.val) :
    ∀ (n : ℕ) (h : n < 16), t.val ≤ n → takeTo x idx n h (ix1 i) = x (ix1 t)
  | 0, h, hn => by
    simp only [takeTo]
    rw [lane_apply]
    congr 2
    exact Fin.ext (Nat.le_zero.1 hn).symm
  | n + 1, h, hn => by
    show Scalar.select (BitVec.ofBool (idx (ix1 i) == BitVec.ofNat 32 (n + 1))) (lane x (n + 1) h (ix1 i)) (takeTo x idx n _ (ix1 i)) = _
    rw [lane_apply, hi, beq_small _ _ t.isLt h, sel_ofBool]
    by_cases hj : t.val = n + 1
    · rw [if_pos (decide_eq_true hj)]
      congr 2
      exact Fin.ext hj.symm
    · rw [if_neg (by simpa using hj), takeTo_at x hi n _ (by omega)]

/-- The mask of the lanes below eight at a lane. -/
theorem lo8_at : ∀ i : Fin 16, lo8 (ix1 i) = BitVec.ofBool (decide (i.val < 8)) := fun i => by
  show BitVec.ofBool ((lanes (ix1 i)).slt (BitVec.ofNat 32 8)) = _
  rw [lanes_at]
  exact congrArg BitVec.ofBool ((slt_small i 8).trans rfl)

/-- Below eight the first index vector names seven minus the lane. -/
theorem shf1_at (i : Fin 16) (hi : i.val < 8) : shf1 (ix1 i) = BitVec.ofNat 32 (pl (7 - i.val)).val := by
  show Scalar.select (lo8 (ix1 i)) (7#32 - lanes (ix1 i)) 0#32 = _
  rw [lo8_at, lanes_at, sel_ofBool, if_pos (decide_eq_true hi)]
  exact (by decide : ∀ i : Fin 16, i.val < 8 → 7#32 - BitVec.ofNat 32 i.val = BitVec.ofNat 32 (pl (7 - i.val)).val) i hi

/-- From eight the second index vector names the lane minus eight. -/
theorem shf2_at (i : Fin 16) (hi : ¬ i.val < 8) : shf2 (ix1 i) = BitVec.ofNat 32 (pl (i.val - 8)).val := by
  show Scalar.select (lo8 (ix1 i)) 0#32 (lanes (ix1 i) - 8#32) = _
  rw [lo8_at, lanes_at, sel_ofBool, if_neg (by simpa using hi)]
  exact (by decide : ∀ i : Fin 16, ¬ i.val < 8 → BitVec.ofNat 32 i.val - 8#32 = BitVec.ofNat 32 (pl (i.val - 8)).val) i hi

/-- The third index vector names fifteen minus the lane. -/
theorem shf3_at (i : Fin 16) : shf3 (ix1 i) = BitVec.ofNat 32 (pl (15 - i.val)).val := by
  show 15#32 - lanes (ix1 i) = _
  rw [lanes_at]
  exact (by decide : ∀ i : Fin 16, 15#32 - BitVec.ofNat 32 i.val = BitVec.ofNat 32 (pl (15 - i.val)).val) i

variable {s : Fin 64 → EReal} (hs : Function.Injective s)

/-- The merge holds at each lane the value of the candidate there. -/
theorem mergeBy_at {k0 k1 k2 k3 : FVec Ideal S16 .f32} (h0 : ∀ l, k0 (ix1 l) = s (mem 0 l)) (h1 : ∀ l, k1 (ix1 l) = s (mem 1 l))
    (h2 : ∀ l, k2 (ix1 l) = s (mem 2 l)) (h3 : ∀ l, k3 (ix1 l) = s (mem 3 l)) {x0 x1 x2 x3 : S16.Idx → α} {X : Fin 64 → α}
    (e0 : ∀ l, x0 (ix1 l) = X (mem 0 l)) (e1 : ∀ l, x1 (ix1 l) = X (mem 1 l)) (e2 : ∀ l, x2 (ix1 l) = X (mem 2 l))
    (e3 : ∀ l, x3 (ix1 l) = X (mem 3 l)) (i : Fin 16) : mergeBy k0 k1 k2 k3 x0 x1 x2 x3 (ix1 i) = X (cand hs i) := by
  have hi := i.isLt
  show Scalar.select (lo8 (ix1 i))
    (Scalar.select (BitVec.ofBool (decide ((takeTo (place (rank k1) k1) shf1 7 (by decide)) (ix1 i) ≤ place (rank k0) k0 (ix1 i))))
      (place (rank k0) x0 (ix1 i)) (takeTo (place (rank k1) x1) shf1 7 (by decide) (ix1 i)))
    (Scalar.select (BitVec.ofBool (decide (takeTo (place (rank k3) k3) shf3 15 (by decide) (ix1 i) ≤ takeTo (place (rank k2) k2) shf2 7 (by decide) (ix1 i))))
      (takeTo (place (rank k2) x2) shf2 7 (by decide) (ix1 i)) (takeTo (place (rank k3) x3) shf3 15 (by decide) (ix1 i))) = _
  rw [lo8_at, sel_ofBool]
  have pli : pl i.val = i := Fin.ext (Nat.mod_eq_of_lt hi)
  unfold cand
  by_cases h : i.val < 8
  · have t1 : ∀ {β : Type} (x : S16.Idx → β), takeTo (place (rank k1) x) shf1 7 (by decide) (ix1 i) = x (ix1 (ord (part_inj hs 1) (pl (7 - i.val)))) :=
      fun x => (takeTo_at _ (shf1_at i h) 7 _ (show (7 - i.val) % 16 ≤ 7 by omega)).trans (place_at (part_inj hs 1) h1 x _)
    have t0 : ∀ {β : Type} (x : S16.Idx → β), place (rank k0) x (ix1 i) = x (ix1 (ord (part_inj hs 0) (pl i.val))) :=
      fun x => by rw [place_at (part_inj hs 0) h0 x, pli]
    rw [if_pos (decide_eq_true h), if_pos h, t1, t0, t1, t0, sel_ofBool, h1, h0, e0, e1]
    simp only [decide_eq_true_eq]
    unfold at'
    split <;> rfl
  · have t2 : ∀ {β : Type} (x : S16.Idx → β), takeTo (place (rank k2) x) shf2 7 (by decide) (ix1 i) = x (ix1 (ord (part_inj hs 2) (pl (i.val - 8)))) :=
      fun x => (takeTo_at _ (shf2_at i h) 7 _ (show (i.val - 8) % 16 ≤ 7 by omega)).trans (place_at (part_inj hs 2) h2 x _)
    have t3 : ∀ {β : Type} (x : S16.Idx → β), takeTo (place (rank k3) x) shf3 15 (by decide) (ix1 i) = x (ix1 (ord (part_inj hs 3) (pl (15 - i.val)))) :=
      fun x => (takeTo_at _ (shf3_at i) 15 _ (show (15 - i.val) % 16 ≤ 15 by omega)).trans (place_at (part_inj hs 3) h3 x _)
    rw [if_neg (by simpa using h), if_neg h, t2, t3, t2, t3, sel_ofBool, h2, h3, e2, e3]
    simp only [decide_eq_true_eq]
    unfold at'
    split <;> rfl

/-- The row's expert numbers at the first eight places are the experts of those places. -/
theorem best_at {k0 k1 k2 k3 : FVec Ideal S16 .f32} (h0 : ∀ l, k0 (ix1 l) = s (mem 0 l)) (h1 : ∀ l, k1 (ix1 l) = s (mem 1 l))
    (h2 : ∀ l, k2 (ix1 l) = s (mem 2 l)) (h3 : ∀ l, k3 (ix1 l) = s (mem 3 l)) (i : Fin 16) (hi : i.val < 8) :
    best k0 k1 k2 k3 (ix1 i) = BitVec.ofNat 32 (ord hs ⟨i.val, lt_trans i.isLt (by decide)⟩).val := by
  have ex : ∀ (g : Fin 4) (l : Fin 16), experts (BitVec.ofNat 32 (16 * g.val)) (ix1 l) = BitVec.ofNat 32 (mem g l).val := fun g l => by
    apply BitVec.eq_of_toNat_eq
    have hg := g.isLt
    have hl := l.isLt
    rw [experts_toNat _ (by omega), BitVec.toNat_ofNat]
    show 16 * g.val + l.val = (16 * g.val + l.val) % 2 ^ 32
    omega
  unfold best
  rw [place_at (key_inj hs) (fun l => mergeBy_at hs h0 h1 h2 h3 (X := s) h0 h1 h2 h3 l), ← cand_ord hs i hi]
  exact mergeBy_at hs h0 h1 h2 h3 (X := fun e => BitVec.ofNat 32 e.val) (ex 0) (ex 1) (ex 2) (ex 3) _

/-- The expert chosen at one of the first eight places of a row. -/
theorem chosen_at {p b : Fin 64 → EReal} (hs : Function.Injective fun c => p c + b c) (i : Fin 16) (hi : i.val < 8) :
    chosen (F := Ideal) p b (ix1 i) = BitVec.ofNat 32 (ord hs ⟨i.val, lt_trans i.isLt (by decide)⟩).val :=
  best_at (s := fun c => p c + b c) hs (fun _ => rfl) (fun _ => rfl) (fun _ => rfl) (fun _ => rfl) i hi

/-- The weight at one of the first eight places of a row. -/
theorem weights_at {p b : Fin 64 → EReal} (hs : Function.Injective fun c => p c + b c) (i : Fin 16) (hi : i.val < 8) :
    weights (F := Ideal) p b (ix1 i) = p (ord hs ⟨i.val, lt_trans i.isLt (by decide)⟩) := by
  unfold weights
  congr 1
  refine Fin.ext ?_
  show (chosen (F := Ideal) p b (ix1 i)).toNat = _
  rw [chosen_at hs i hi, BitVec.toNat_ofNat]
  exact Nat.mod_eq_of_lt (lt_trans (Fin.isLt _) (by decide))

end Cert.KernelIdeal.Row

end
-- ==== Proof.Probs.lean ====
/- The probabilities: the call's and the reference's are the same softmax of the same products. -/
module

public import proofs.«01_k».proof.Proof.Merge
public import proofs.«01_k».proof.Proof.Region
public import proofs.«01_k».proof.Proof.Gen.ReferenceIdeal.Run
public import Idealize.ShloMosaic.PureOps.Ideal.Laws
public import Idealize.ShloMosaic.Lib.KernelVsHost
public import Idealize.ShloMosaic.Lib.IdealHost
public import Idealize.ShloMosaic.Lib.Pointwise

@[expose] public section

noncomputable section

namespace Cert.Algebra

open Idealize.ShloMosaic Idealize.SL.Sem

/-- The tokens' array, the experts' weights and the bias, at the ideal values. -/
abbrev TX : Type := (⟨2, ![8192, 2048]⟩ : Shape).Idx → EReal
abbrev TW : Type := (⟨2, ![64, 2048]⟩ : Shape).Idx → EReal
abbrev TB : Type := (⟨1, ![64]⟩ : Shape).Idx → EReal

/-- The product of token `r` and expert `c`. -/
def logit (x : TX) (w : TW) (r : Fin 8192) (c : Fin 64) : EReal :=
  ∑ k : Fin 2048, x (ix2 r k) * w (ix2 c k)

/-- A row's greatest product. -/
def top (L : Fin 64 → EReal) : EReal := (Finset.univ : Finset (Fin 64)).fold max (Ideal.ofBits .f32 0xFF800000#32) L

/-- The softmax of a row. -/
def soft (L : Fin 64 → EReal) (c : Fin 64) : EReal :=
  Ideal.div (Ideal.exp (L c - top L)) (∑ c' : Fin 64, Ideal.exp (L c' - top L))

section Call

open Cert.KernelIdeal Cert.KernelIdeal.Gen Cert.KernelIdeal.Launch

/-- The call's block of probabilities at an index. -/
theorem pay_at (w : TW) (x : S1024x2048.Idx → EReal) (r : Fin 1024) (c : Fin 64) :
    k0_pay1 (F := Ideal) w x (ix2 r c) = soft (fun c => ∑ k : Fin 2048, x (ix2 r k) * w (ix2 c k)) c := by
  unfold k0_pay1
  pointwise
  have e : ∀ c' : Fin 64, (∑ k : Fin 2048, w (ix2 c' k) * x (ix2 r k)) = ∑ k : Fin 2048, x (ix2 r k) * w (ix2 c' k) :=
    fun c' => Finset.sum_congr rfl fun k _ => mul_comm _ _
  simp only [e]
  rfl

/-- The call's probabilities at an index. -/
theorem PO_at (x : TX) (w : TW) (r : Fin 8192) (c : Fin 64) :
    PO (F := Ideal) x w (ix2 r c) = soft (logit x w r) c := by
  refine (pay_at w _ ⟨r.val % 1024, Nat.mod_lt _ (by decide)⟩ c).trans ?_
  congr 1
  funext c'
  refine Finset.sum_congr rfl fun k _ => congrArg (· * w (ix2 c' k)) (congrArg x (congrArg (ix2 · k) (Fin.ext ?_)))
  show r.val / 1024 * 1024 + r.val % 1024 = r.val
  omega

end Call

/-- From minus infinity the greatest of a row is at least minus infinity. -/
theorem max_top (L : Fin 64 → EReal) : max (Ideal.ofBits .f32 0xFF800000#32) (top L) = top L :=
  max_eq_right ((Finset.le_fold_max _).2 (Or.inl le_rfl))

section Reference

open Cert.ReferenceIdeal Cert.ReferenceIdeal.Facts₀

/-- The reference's products. -/
def refDot (x : TX) (w : TW) : FVec Ideal S8192x64 .f32 :=
  Host.dotGeneral (F := Ideal) (φ₁ := .f32) (φ₂ := .f32) dot_S8192x2048_S2048x64_S8192x64_1_0_0_1_n_n none x (transpose S2048x64 [1, 0] w transposes_S64x2048_S2048x64_1_0)

/-- The reference's exponentials. -/
def refExp (x : TX) (w : TW) : FVec Ideal S8192x64 .f32 :=
  Host.exp (subf (refDot x w) (broadcastInDim S8192x64 ![0, 1] bcast_S8192x1_S8192x64_0_1 (broadcastInDim S8192x1 ![0] bcast_S8192_S8192x1_0
    (maximumf (broadcastInDim S8192 ![] bcast_S_S8192 (constant S_ .f32 0xFF800000#32))
      (Host.reduce FloatOps.maximumf (refDot x w) (constant S_ .f32 0xFF800000#32) reducesTo_S8192x64_S8192_d1 h_S_)))))

/-- The reference's probabilities. -/
def refProb (x : TX) (w : TW) : FVec Ideal S8192x64 .f32 :=
  Host.divf (refExp x w) (broadcastInDim S8192x64 ![0, 1] bcast_S8192x1_S8192x64_0_1 (broadcastInDim S8192x1 ![0] bcast_S8192_S8192x1_0
    (Host.reduceAdd (refExp x w) (constant S_ .f32 0x00000000#32) reducesTo_S8192x64_S8192_d1 h_S_)))

/-- The reference's scores. -/
def refScore (x : TX) (w : TW) (b : TB) : FVec Ideal S8192x64 .f32 :=
  addf (refProb x w) (broadcastInDim S8192x64 ![0, 1] bcast_S1x64_S8192x64_0_1 (broadcastInDim S1x64 ![1] bcast_S64_S1x64_1 b))

/-- The reference's product at an index. -/
theorem refDot_at (x : TX) (w : TW) (r : Fin 8192) (c : Fin 64) :
    refDot x w (ix2 r c) = logit x w r c := by
  unfold refDot
  pointwise
  rfl

/-- The reference's exponential at an index. -/
theorem refExp_at (x : TX) (w : TW) (r : Fin 8192) (c : Fin 64) :
    refExp x w (ix2 r c) = Ideal.exp (logit x w r c - top (logit x w r)) := by
  unfold refExp
  rw [hostReduce_maximumf_eq_multiReduction (refDot x w) 0xFF800000#32 reducesTo_S8192x64_S8192_d1 h_S_ (by decide) (.inl rfl) rfl]
  pointwise
  simp only [refDot_at]
  rw [← max_top]
  rfl

/-- The reference's probability at an index is the softmax of its row. -/
theorem refProb_at (x : TX) (w : TW) (r : Fin 8192) (c : Fin 64) :
    refProb x w (ix2 r c) = soft (logit x w r) c := by
  unfold refProb
  pointwise
  simp only [refExp_at]
  rfl

/-- The reference's score at an index is the probability plus the bias. -/
theorem refScore_at (x : TX) (w : TW) (b : TB) (r : Fin 8192) (c : Fin 64) :
    refScore x w b (ix2 r c) = soft (logit x w r) c + b (ix1 c) := by
  unfold refScore
  pointwise
  rw [refProb_at]

end Reference

end Cert.Algebra

end
-- ==== Proof.Distinct.lean ====
/- The precondition read: in each row the scores are pairwise distinct. -/
module

public import proofs.«01_k».proof.Defs
public import proofs.«01_k».proof.Proof.Probs

@[expose] public section

noncomputable section

namespace Cert.Algebra

open Idealize.ShloMosaic Idealize.SL.Sem

/-- The precondition's side conditions. -/
theorem preFacts : Cert.Pre_scores_distinct.Facts where
  transposes_S64x2048_S2048x64_1_0 := by decide
  reducesTo_S8192x64_S8192_d1 := by decide
  h_S_ := by decide
  bcast_S_S8192 := by decide
  bcast_S8192_S8192x1_0 := by decide
  bcast_S8192x1_S8192x64_0_1 := by decide
  bcast_S64_S1x64_1 := by decide
  bcast_S1x64_S8192x64_0_1 := by decide
  bcast_S8192x64_S8192x64x1_0_1 := by decide
  bcast_S8192x64_S8192x1x64_0_2 := by decide
  bcast_S8192x64x1_S8192x64x64_0_1_2 := by decide
  bcast_S8192x1x64_S8192x64x64_0_1_2 := by decide
  bcast_S64_S64x1_0 := by decide
  bcast_S64x1_S64x64_0_1 := by decide
  bcast_S1x64_S64x64_0_1 := by decide
  bcast_S64x64_S1x64x64_1_2 := by decide
  bcast_S1x64x64_S8192x64x64_0_1_2 := by decide
  dot_S8192x2048_S2048x64_S8192x64_1_0_0_1_n_n_wf := by decide

section Read

open Cert.Pre_scores_distinct Cert.Pre_scores_distinct.Facts

variable [Cert.Pre_scores_distinct.Facts]

/-- The precondition of the scores: of two positions of a row the scores differ or the positions agree. -/
def preOf (s : FVec Ideal S8192x64 .f32) : IVec S8192x64x64 1 :=
  ori (cmpf .une
      (broadcastInDim S8192x64x64 ![0, 1, 2] bcast_S8192x64x1_S8192x64x64_0_1_2 (broadcastInDim S8192x64x1 ![0, 1] bcast_S8192x64_S8192x64x1_0_1 s))
      (broadcastInDim S8192x64x64 ![0, 1, 2] bcast_S8192x1x64_S8192x64x64_0_1_2 (broadcastInDim S8192x1x64 ![0, 2] bcast_S8192x64_S8192x1x64_0_2 s)))
    (broadcastInDim S8192x64x64 ![0, 1, 2] bcast_S1x64x64_S8192x64x64_0_1_2 (broadcastInDim S1x64x64 ![1, 2] bcast_S64x64_S1x64x64_1_2
      (cmpi .eq (broadcastInDim S64x64 ![0, 1] bcast_S64x1_S64x64_0_1 (broadcastInDim S64x1 ![0] bcast_S64_S64x1_0 (iotaInDim S64 32 0)))
        (broadcastInDim S64x64 ![0, 1] bcast_S1x64_S64x64_0_1 (broadcastInDim S1x64 ![1] bcast_S64_S1x64_1 (iotaInDim S64 32 0))))))

/-- The precondition's scores are the reference's. -/
theorem fn_eq (x : TX) (w : TW) (b : TB) : Cert.Pre_scores_distinct.fn (F := Ideal) x w b = preOf (refScore x w b) := rfl

/-- The precondition at a row and two positions. -/
theorem preOf_at (s : FVec Ideal S8192x64 .f32) (r : Fin 8192) (c d : Fin 64) : preOf s (ix3 r c d)
    = IntOp.ori (BitVec.ofBool (decide (s (ix2 r c) ≠ s (ix2 r d)))) (BitVec.ofBool (BitVec.ofNat 32 c.val == BitVec.ofNat 32 d.val)) := by
  unfold preOf
  pointwise
  rfl

/-- Under the precondition a row's scores are distinct. -/
theorem scores_inj {x : TX} {w : TW} {b : TB} (h : Cert.Pre_scores_distinct.fn (F := Ideal) x w b = fun _ => 1#1) (r : Fin 8192) :
    Function.Injective fun c : Fin 64 => refScore x w b (ix2 r c) := fun c d e => by
  have h1 := congrFun h (ix3 r c d)
  rw [fn_eq, preOf_at, decide_eq_false (not_not.2 e)] at h1
  have h2 : BitVec.ofNat 32 c.val = BitVec.ofNat 32 d.val := by
    cases h3 : (BitVec.ofNat 32 c.val == BitVec.ofNat 32 d.val)
    · rw [h3] at h1
      exact absurd h1 (by decide)
    · exact beq_iff_eq.1 h3
  have h4 := congrArg BitVec.toNat h2
  rw [BitVec.toNat_ofNat, BitVec.toNat_ofNat] at h4
  have := c.isLt
  have := d.isLt
  exact Fin.ext (by omega)

end Read

end Cert.Algebra

end
-- ==== Proof.Pick.lean ====
/- The reference's choice of experts and its weights, read at an index: the experts of the first places of the descending
   order of the scores, and the probabilities there. -/
module

public import proofs.«01_k».proof.Proof.Probs
public import Idealize.ShloMosaic.Lib.SortPrefix
public import Idealize.ShloMosaic.Lib.ReduceAll

@[expose] public section

noncomputable section

namespace Cert.Algebra

open Idealize.ShloMosaic Idealize.SL.Sem Cert.Ranks
open Cert.ReferenceIdeal Cert.ReferenceIdeal.Facts₀

/-- The place of the sixth and earlier in a row of 64. -/
def at6 (i : Fin 6) : Fin 64 := ⟨i.val, lt_trans i.isLt (by decide)⟩

/-- Sorting a row of distinct values, greatest first, puts at each place the member of that place. -/
theorem sorted_at {k : Fin 64 → EReal} (hk : Function.Injective k) (i : Fin 64) :
    sortedFrom (fun a b => FloatOps.cmpfTotal (F := Ideal) (φ := .f32) .gt (k a) (k b) == 1#1) i = ord hk i := by
  have hB : ∀ a b, (FloatOps.cmpfTotal (F := Ideal) (φ := .f32) .gt (k a) (k b) == 1#1) = decide (k b < k a) := fun a b => by
    show (BitVec.ofBool (decide (k b < k a)) == 1#1) = _
    cases decide (k b < k a) <;> rfl
  simp only [hB]
  refine StrictTotalBefore.sortedFrom_eq_of_prefix (k := 64) (B := fun a b => decide (k b < k a)) ⟨fun a => ?_, fun a b c h1 h2 => ?_, fun a b h => ?_⟩
    (Nat.le_refl 64) (ord hk) (ord_inj hk) (fun i j h => ?_) (fun i p h => ?_) i
  · exact decide_eq_false (lt_irrefl _)
  · exact decide_eq_true (lt_trans (of_decide_eq_true h2) (of_decide_eq_true h1))
  · rcases lt_trichotomy (k a) (k b) with h1 | h1 | h1
    · exact Or.inr (decide_eq_true h1)
    · exact absurd (hk h1) h
    · exact Or.inl (decide_eq_true h1)
  · exact decide_eq_false (not_lt.2 (ord_lt hk h).le)
  · obtain ⟨j, hj⟩ := (Finite.injective_iff_surjective.1 (ord_inj hk)) p
    exact absurd hj (h j)

/-- A stable sort carrying the positions leaves at each place the position sorted there. -/
theorem sort2_positions {s : Shape} {α : Type} (d : ℕ) (hd : d < s.rank) (cmp : α → α → BitVec 1) (x : s.Idx → α) (j : s.Idx) :
    (Host.sort2 s d (fun l r => cmp l.1 r.1) x (fun i => if hd : d < s.rank then iotaInDim s 32 ⟨d, hd⟩ i else 0#32)).2 j
      = BitVec.ofNat 32 (sortedFrom (fun k k' => cmp (x (j.along ⟨d, hd⟩ k)) (x (j.along ⟨d, hd⟩ k')) == 1#1) (j ⟨d, hd⟩)).val := by
  unfold Host.sort2
  rw [dif_pos hd]
  refine (dif_pos hd).trans ?_
  show BitVec.ofNat 32 (Function.update j _ _ _).val = _
  rw [Function.update_self]

/-- The greatest elements' positions along an axis, from the index the slice reads. -/
theorem topK_positions {s t : Shape} {α : Type} (d : ℕ) (hd : d < s.rank) (cmp : α → α → BitVec 1) (x : s.Idx → α) (h : s.Slices (fun _ => 0) t)
    (j : t.Idx) (y : s.Idx) (hy : ∀ a, (y a).val = (j (a.cast h.1.symm)).val) :
    (Host.topK t d cmp x h).2 j
      = BitVec.ofNat 32 (sortedFrom (fun k k' => cmp (x (y.along ⟨d, hd⟩ k)) (x (y.along ⟨d, hd⟩ k')) == 1#1) (y ⟨d, hd⟩)).val := by
  rw [← sort2_positions d hd cmp x y]
  refine congrArg (Host.sort2 s d (fun l r => cmp l.1 r.1) x (fun i => if hd : d < s.rank then iotaInDim s 32 ⟨d, hd⟩ i else 0#32)).2 (funext fun a => Fin.ext ?_)
  exact (Nat.zero_add _).trans (hy a).symm

/-- The six greatest of each row: their positions. -/
theorem topK_at {s : S8192x64.Idx → EReal} (h : S8192x64.Slices (fun _ => 0) S8192x6) (r : Fin 8192) (hs : Function.Injective fun c : Fin 64 => s (ix2 r c)) (i : Fin 6) :
    (Host.topK S8192x6 1 (FloatOps.cmpfTotal (F := Ideal) (φ := .f32) .gt) s h).2 (ix2 r i) = BitVec.ofNat 32 (ord hs (at6 i)).val := by
  rw [← sorted_at hs (at6 i)]
  refine (topK_positions 1 (by decide) _ s h (ix2 r i) (ix2 r (at6 i)) fun a => by fin_cases a <;> rfl).trans ?_
  have al : ∀ c : Fin 64, Shape.Idx.along (s := S8192x64) (ix2 r (at6 i)) 1 c = ix2 r c := fun c => by
    funext a
    fin_cases a <;> rfl
  have e : (fun k k' : Fin 64 => FloatOps.cmpfTotal (F := Ideal) (φ := .f32) .gt (s (Shape.Idx.along (s := S8192x64) (ix2 r (at6 i)) 1 k)) (s (Shape.Idx.along (s := S8192x64) (ix2 r (at6 i)) 1 k')) == 1#1)
      = fun k k' => FloatOps.cmpfTotal (F := Ideal) (φ := .f32) .gt (s (ix2 r k)) (s (ix2 r k')) == 1#1 := by
    funext k k'
    rw [al, al]
  exact congrArg (fun B : Fin 64 → Fin 64 → Bool => BitVec.ofNat 32 (sortedFrom B (at6 i)).val) e

/-- A row's gather reads the expert its index names. -/
theorem gather_at (p : S8192x64.Idx → EReal) (idx : IVec S8192x6x1 32) (r : Fin 8192) (k : Fin 6) (e : Fin 64)
    (h : idx (ix3 r k (0 : Fin 1)) = BitVec.ofNat 32 e.val) :
    Host.gather gather_S8192x64_S8192x6x1_S8192x6_n_1_0_0_1_2_11 p idx (ix2 r k) = p (ix2 r e) := by
  refine congrArg p (funext fun a => Fin.ext ?_)
  match a with
  | ⟨0, _⟩ =>
    show 0 + r.val + 0 = r.val
    omega
  | ⟨1, _⟩ =>
    have hsi : ∀ q, GatherDims.siIdx gather_S8192x64_S8192x6x1_S8192x6_n_1_0_0_1_2_11 (ix2 r k) q = ix3 r k (0 : Fin 1) := fun q => by
      funext b
      match b with
      | ⟨0, _⟩ => rfl
      | ⟨1, _⟩ => rfl
      | ⟨2, _⟩ => exact Subsingleton.elim (α := Fin 1) _ _
    show min (idx (GatherDims.siIdx gather_S8192x64_S8192x6x1_S8192x6_n_1_0_0_1_2_11 (ix2 r k) _)).toInt.toNat 63 + 0 + 0 = e.val
    rw [hsi, h]
    exact (by decide : ∀ e : Fin 64, min (BitVec.ofNat 32 e.val).toInt.toNat 63 + 0 + 0 = e.val) e

/-- The reference's index array: negative indices counted from the end. -/
def refIdx (v : IVec S8192x6 32) : IVec S8192x6x1 32 :=
  shapeCast S8192x6x1 (select (cmpi .slt v (broadcastInDim S8192x6 ![] bcast_S_S8192x6 (constantI S_ 32 0#32)))
    (addi v (broadcastInDim S8192x6 ![] bcast_S_S8192x6 (constantI S_ 32 64#32))) v) shapeCasts_S8192x6_S8192x6x1

/-- Which of the reference's indices are in range. -/
def refMask (v : IVec S8192x6 32) : IVec S8192x6x1 1 :=
  andi (cmpi .sge (refIdx v) (broadcastInDim S8192x6x1 ![] bcast_S_S8192x6x1 (constantI S_ 32 0#32)))
    (cmpi .sle (refIdx v) (broadcastInDim S8192x6x1 ![0, 1, 2] bcast_S1x1x1_S8192x6x1_0_1_2 (broadcastInDim S1x1x1 ![2] bcast_S1_S1x1x1_2 (constantI S1 32 63#32))))

/-- The reference's weights from probabilities and chosen experts. -/
def refTake (p : FVec Ideal S8192x64 .f32) (v : IVec S8192x6 32) : FVec Ideal S8192x6 .f32 :=
  mulf (select (Host.reduce IntOp.andi (refMask v) (constantI S_ 1 1#1) reducesTo_S8192x6x1_S8192x6_d2 h_S_)
    (Host.gather gather_S8192x64_S8192x6x1_S8192x6_n_1_0_0_1_2_11 p (refIdx v))
    (broadcastInDim S8192x6 ![] bcast_S_S8192x6 (constant S_ .f32 0x7FC00000#32)))
    (broadcastInDim S8192x6 ![] bcast_S_S8192x6 (constant S_ .f32 0x3F800000#32))

/-- A chosen expert is not negative, so its index is itself. -/
theorem refIdx_at {v : IVec S8192x6 32} (r : Fin 8192) (k : Fin 6) {e : Fin 64} (h : v (ix2 r k) = BitVec.ofNat 32 e.val) (z : Fin 1) :
    refIdx v (ix3 r k z) = BitVec.ofNat 32 e.val := by
  unfold refIdx
  pointwise
  rw [h]
  exact (by decide : ∀ e : Fin 64, Scalar.select (IntOp.cmpi .slt (BitVec.ofNat 32 e.val) 0#32) (BitVec.ofNat 32 e.val + 64#32) (BitVec.ofNat 32 e.val) = BitVec.ofNat 32 e.val) e

/-- Every chosen expert is in range. -/
theorem refMask_at {v : IVec S8192x6 32} (h : ∀ r k, ∃ e : Fin 64, v (ix2 r k) = BitVec.ofNat 32 e.val) (i : S8192x6x1.Idx) : refMask v i = 1#1 := by
  have ei : ∃ (r : Fin 8192) (k : Fin 6) (z : Fin 1), i = ix3 r k z := ⟨i 0, i 1, i 2, by funext a; fin_cases a <;> rfl⟩
  obtain ⟨r, k, z, rfl⟩ := ei
  obtain ⟨e, he⟩ := h r k
  show IntOp.andi (IntOp.cmpi .sge (refIdx v (ix3 r k z)) 0#32) (IntOp.cmpi .sle (refIdx v (ix3 r k z)) 63#32) = 1#1
  rw [refIdx_at r k he]
  exact (by decide : ∀ e : Fin 64, IntOp.andi (IntOp.cmpi .sge (BitVec.ofNat 32 e.val) 0#32) (IntOp.cmpi .sle (BitVec.ofNat 32 e.val) 63#32) = 1#1) e

/-- The reference's weight at an index is the probability of the chosen expert. -/
theorem refTake_at (p : FVec Ideal S8192x64 .f32) {v : IVec S8192x6 32} (h : ∀ r k, ∃ e : Fin 64, v (ix2 r k) = BitVec.ofNat 32 e.val)
    (r : Fin 8192) (k : Fin 6) (e : Fin 64) (he : v (ix2 r k) = BitVec.ofNat 32 e.val) : refTake p v (ix2 r k) = p (ix2 r e) := by
  show Scalar.select (Host.reduce IntOp.andi (refMask v) (constantI S_ 1 1#1) reducesTo_S8192x6x1_S8192x6_d2 h_S_ (ix2 r k))
    (Host.gather gather_S8192x64_S8192x6x1_S8192x6_n_1_0_0_1_2_11 p (refIdx v) (ix2 r k)) (Ideal.ofBits .f32 0x7FC00000#32) * Ideal.ofBits .f32 0x3F800000#32 = _
  rw [Host.reduce_andi_one _ _ _ _ _ rfl (refMask_at h), gather_at p _ r k e (refIdx_at r k he 0), Ideal.ofBits_one_f32, mul_one]
  rfl

end Cert.Algebra

end
-- ==== Proof.Algebra.lean ====
/- The kernel's results are the reference's at the ideal values. -/
module

public import proofs.«01_k».proof.Proof.Distinct
public import proofs.«01_k».proof.Proof.Pick
public import proofs.«01_k».proof.Proof.Main
public import proofs.«01_k».proof.Proof.Frames

@[expose] public section

noncomputable section

namespace Cert.Algebra

open Idealize.ShloMosaic Idealize.ShloMosaic.TcCoe Idealize.SL.Sem Cert.Ranks

/-- The reference's chosen experts. -/
def refTop (x : TX) (w : TW) (b : TB) : IVec Cert.ReferenceIdeal.S8192x6 32 :=
  (Host.topK Cert.ReferenceIdeal.S8192x6 1 (FloatOps.cmpfTotal (F := Ideal) (φ := .f32) .gt) (refScore x w b) Cert.ReferenceIdeal.Facts₀.sliceFits_S8192x64_S8192x6).2

section Values

variable {x : TX} {w : TW} {b : TB} (h : ∀ r : Fin 8192, Function.Injective fun c : Fin 64 => refScore x w b (ix2 r c))

include h in
/-- The kernel's scores of a row are distinct. -/
theorem row_inj (r : Fin 8192) : Function.Injective fun c : Fin 64 => Cert.KernelIdeal.Launch.PO (F := Ideal) x w (ix2 r c) + b (ix1 c) := by
  have e : (fun c : Fin 64 => Cert.KernelIdeal.Launch.PO (F := Ideal) x w (ix2 r c) + b (ix1 c)) = fun c : Fin 64 => refScore x w b (ix2 r c) :=
    funext fun c => by rw [PO_at, refScore_at]
  rw [e]
  exact h r

/-- Equal families have equal orders. -/
theorem ord_congr {n : ℕ} {k k' : Fin n → EReal} (hk : Function.Injective k) (hk' : Function.Injective k') (e : k = k') (i : Fin n) :
    ord hk i = ord hk' i := by subst e; rfl

include h in
/-- The reference's choice at a place is the expert at that place of the descending order. -/
theorem refTop_at (r : Fin 8192) (i : Fin 6) : refTop x w b (ix2 r i) = BitVec.ofNat 32 (ord (row_inj h r) (at6 i)).val := by
  unfold refTop
  rw [topK_at _ r (h r) i, ord_congr (h r) (row_inj h r) (funext fun c => by rw [PO_at, refScore_at])]

include h in
/-- The kernel's expert numbers are the reference's. -/
theorem idx_eq (r : Fin 8192) (i : Fin 6) :
    Cert.KernelIdeal.Launch.IO (F := Ideal) (Cert.KernelIdeal.Launch.PO x w) b (ix2 r ⟨i.val, lt_trans i.isLt (by decide)⟩) = refTop x w b (ix2 r i) := by
  rw [refTop_at h r i]
  exact Cert.KernelIdeal.Row.chosen_at (row_inj h r) ⟨i.val, lt_trans i.isLt (by decide)⟩ (lt_trans i.isLt (by decide))

include h in
/-- The kernel's weights are the reference's. -/
theorem weight_eq (r : Fin 8192) (i : Fin 6) :
    Cert.KernelIdeal.Launch.WO (F := Ideal) (Cert.KernelIdeal.Launch.PO x w) b (ix2 r ⟨i.val, lt_trans i.isLt (by decide)⟩) = refTake (refProb x w) (refTop x w b) (ix2 r i) := by
  rw [refTake_at (refProb x w) (fun r k => ⟨_, refTop_at h r k⟩) r i _ (refTop_at h r i), refProb_at, ← PO_at]
  exact Cert.KernelIdeal.Row.weights_at (row_inj h r) ⟨i.val, lt_trans i.isLt (by decide)⟩ (lt_trans i.isLt (by decide))

end Values

end Cert.Algebra

namespace Cert.Proof

open Idealize.ShloMosaic Idealize.ShloMosaic.TcCoe Idealize.SL.Sem Cert.Algebra

local instance : Cert.Pre_scores_distinct.Facts := preFacts

/-- The reference's results are those of its operations as read above. -/
theorem ref_weights (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v18 m c
      = refTake (refProb (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
        (refTop (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))) := rfl

/-- The kernel's weights at an index. -/
theorem wRes_at (m : (ℓ : Loc Cert.KernelIdeal.nD Cert.KernelIdeal.τ Cert.KernelIdeal.sig) → Buf (Elt Ideal) ℓ) (c : Dev Cert.KernelIdeal.nD) (r : Fin 8192) (k : Fin 6) :
    Cert.KernelIdeal.Launch.wRes (F := Ideal) m c (ix2 r k) = Cert.KernelIdeal.Launch.WO (F := Ideal) (Cert.KernelIdeal.Launch.pOf m c) (Cert.KernelIdeal.Launch.bOf m c)
      (ix2 r ⟨k.val, lt_trans k.isLt (by decide)⟩) := by
  unfold Cert.KernelIdeal.Launch.wRes
  refine congrArg (Cert.KernelIdeal.Launch.WO (F := Ideal) (Cert.KernelIdeal.Launch.pOf m c) (Cert.KernelIdeal.Launch.bOf m c)) (funext fun a => ?_)
  fin_cases a <;> exact Fin.ext (Nat.zero_add _)

/-- The kernel's expert numbers at an index. -/
theorem iRes_at (m : (ℓ : Loc Cert.KernelIdeal.nD Cert.KernelIdeal.τ Cert.KernelIdeal.sig) → Buf (Elt Ideal) ℓ) (c : Dev Cert.KernelIdeal.nD) (r : Fin 8192) (k : Fin 6) :
    Cert.KernelIdeal.Launch.iRes (F := Ideal) m c (ix2 r k) = Cert.KernelIdeal.Launch.IO (F := Ideal) (Cert.KernelIdeal.Launch.pOf m c) (Cert.KernelIdeal.Launch.bOf m c)
      (ix2 r ⟨k.val, lt_trans k.isLt (by decide)⟩) := by
  unfold Cert.KernelIdeal.Launch.iRes
  refine congrArg (Cert.KernelIdeal.Launch.IO (F := Ideal) (Cert.KernelIdeal.Launch.pOf m c) (Cert.KernelIdeal.Launch.bOf m c)) (funext fun a => ?_)
  fin_cases a <;> exact Fin.ext (Nat.zero_add _)

/-- Functions on the indices of a result that agree at every row and column are equal. -/
theorem ext6 {α : Type} {f g : Cert.ReferenceIdeal.S8192x6.Idx → α} (h : ∀ (r : Fin 8192) (k : Fin 6), f (ix2 r k) = g (ix2 r k)) : f = g := funext fun i => by
  have ei : ∃ (r : Fin 8192) (k : Fin 6), i = ix2 r k := ⟨i 0, i 1, by funext a; fin_cases a <;> rfl⟩
  obtain ⟨r, k, rfl⟩ := ei
  exact h r k

/-- On distinct scores the kernel and the reference end with equal results. -/
theorem algebraic : Cert.algebraic_KernelIdeal_ReferenceIdeal_pre_scores_distinct := by
  intro m g m' g' hpre harg
  refine ⟨fun c => Cert.KernelIdeal.Launch.wRes m c, fun c => Cert.KernelIdeal.Launch.iRes m c, ?_, ?_⟩
  · refine (θ_run _ _ _).mono (fun r hr c => ?_) (Cert.KernelIdeal.Launch.run_main (F := Ideal) m g)
    unfold Cert.KernelIdeal.Launch.QC at hr
    obtain ⟨a0, a1, a2, o0, o1⟩ := hr.1 c
    exact ⟨o0, o1, a0, a1, a2⟩
  · refine (θ_run _ _ _).mono (fun r hr c => ⟨(hr c).1.trans ?_, (hr c).2.1.trans ?_, (hr c).2.2⟩) (Cert.ReferenceIdeal.Value.run (F := Ideal) m' g')
    · obtain ⟨h0, h1, h2⟩ := harg c
      rw [ref_weights, h0, h1, h2]
      exact ext6 fun r k => ((wRes_at m c r k).trans (weight_eq (scores_inj (hpre c)) r k)).symm
    · obtain ⟨h0, h1, h2⟩ := harg c
      rw [h0, h1, h2]
      exact ext6 fun r k => ((iRes_at m c r k).trans (idx_eq (scores_inj (hpre c)) r k)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The certificate's claim. -/
theorem claim : Cert.Claim := ⟨Cert.Kernel.Gen.facts, Cert.KernelIdeal.Gen.facts, Cert.ReferenceIdeal.Gen.facts, Cert.Algebra.preFacts,
  frame_kernel, frame_ideal, fun m ρ _ => frame_ideal m ρ trivial, frame_reference, fun m ρ _ => frame_reference m ρ trivial, trivial, algebraic⟩

end Cert.Proof

end
